-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 2048]⟩ ⟨2, ![8192, 4096]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x2048 : Shape := ⟨2, ![4096, 2048]⟩
abbrev S2048x1024 : Shape := ⟨2, ![2048, 1024]⟩
abbrev S4096x512 : Shape := ⟨2, ![4096, 512]⟩
abbrev S2048x512 : Shape := ⟨2, ![2048, 512]⟩
abbrev S8 : Shape := ⟨1, ![8]⟩
abbrev S2 : Shape := ⟨1, ![2]⟩
abbrev S1 : Shape := ⟨1, ![1]⟩
abbrev S_ : Shape := ⟨0, ![]⟩

abbrev nBuf : Space → Nat
  | .hbm => 2
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .local _ .vmem, ⟨0, _⟩ => ⟨S4096x2048, .f32⟩
  | .local _ .vmem, ⟨1, _⟩ => ⟨S2048x1024, .f32⟩
  | .local _ .vmem, ⟨2, _⟩ => ⟨S4096x512, .f32⟩
  | .local _ .vmem, ⟨3, _⟩ => ⟨S2048x512, .f32⟩
  | .local _ .vmem, ⟨4, _⟩ => ⟨S2048x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 3 → Bool
  | ⟨0, _⟩ => true
  | ⟨1, _⟩ => true
  | ⟨2, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 3 19 bufScoped semScoped dmaSemScoped tileCredit tileCredit_eq_zero tileCredit_pos).withBarriers [(0, 2)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 2

abbrev nD : Nat := 4
abbrev τ : Topo := Topo.v7x

variable {F : FTy → Type} [FloatOps F]

abbrev grid0 : Pipeline.Grid := .none

def k0_off1 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32 : BitVec 32 := 2048#32
  let v8 : BitVec 32 := Scalar.muli v2 c2048_i32
  let c0_i32_4 : BitVec 32 := 0#32
  ![v8.toNat, 0]
def k0_off2 (d0 : Dev nD) : Fin 2 → Nat :=
  let c0_i32_6 : BitVec 32 := 0#32
  let c1024_i32 : BitVec 32 := 1024#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v9 : BitVec 32 := Scalar.muli v5 c512_i32
  let v10 : BitVec 32 := Scalar.addi c1024_i32 v9
  ![0, v10.toNat]
def k0_dev1 (d0 : Dev nD) : Nat :=
  let c0_i32_9 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_8 : BitVec 32 := 2#32
  let v18 : BitVec 32 := Scalar.muli v6 c2_i32_8
  let v19 : BitVec 32 := Scalar.addi c0_i32_9 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v20 : BitVec 32 := Scalar.muli v5 c1_i32_10
  let v21 : BitVec 32 := Scalar.addi v19 v20
  v21.toNat
def k0_dev2 (d0 : Dev nD) : Nat :=
  let c0_i32_13 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_12 : BitVec 32 := 2#32
  let v22 : BitVec 32 := Scalar.muli v2 c2_i32_12
  let v23 : BitVec 32 := Scalar.addi c0_i32_13 v22
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_14 : BitVec 32 := 1#32
  let v24 : BitVec 32 := Scalar.muli v7 c1_i32_14
  let v25 : BitVec 32 := Scalar.addi v23 v24
  v25.toNat
def k0_off3 (d0 : Dev nD) : Fin 2 → Nat :=
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2048_i32_16 : BitVec 32 := 2048#32
  let v26 : BitVec 32 := Scalar.muli v6 c2048_i32_16
  let c0_i32_33 : BitVec 32 := 0#32
  ![v26.toNat, 0]
def k0_dev3 (d0 : Dev nD) : Nat :=
  let c0_i32_30 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_29 : BitVec 32 := 2#32
  let v37 : BitVec 32 := Scalar.muli v6 c2_i32_29
  let v38 : BitVec 32 := Scalar.addi c0_i32_30 v37
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_31 : BitVec 32 := 1#32
  let v39 : BitVec 32 := Scalar.muli v5 c1_i32_31
  let v40 : BitVec 32 := Scalar.addi v38 v39
  v40.toNat
def k0_off4 (d0 : Dev nD) : Fin 2 → Nat :=
  let c0_i32_40 : BitVec 32 := 0#32
  let c1024_i32_19 : BitVec 32 := 1024#32
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c512_i32_18 : BitVec 32 := 512#32
  let v28 : BitVec 32 := Scalar.muli v7 c512_i32_18
  let v29 : BitVec 32 := Scalar.addi c1024_i32_19 v28
  ![0, v29.toNat]
def k0_dev4 (d0 : Dev nD) : Nat :=
  let c0_i32_37 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_36 : BitVec 32 := 2#32
  let v47 : BitVec 32 := Scalar.muli v2 c2_i32_36
  let v48 : BitVec 32 := Scalar.addi c0_i32_37 v47
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_38 : BitVec 32 := 1#32
  let v49 : BitVec 32 := Scalar.muli v7 c1_i32_38
  let v50 : BitVec 32 := Scalar.addi v48 v49
  v50.toNat
def k0_off5 (d0 : Dev nD) : Fin 2 → Nat :=
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2048_i32_56 : BitVec 32 := 2048#32
  let v73 : BitVec 32 := Scalar.muli v6 c2048_i32_56
  let v74 : Index := Scalar.indexCast v73
  let c0_57 : Index := 0#32
  ![v74.toNat, 0]
def k0_off6 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32_58 : BitVec 32 := 2048#32
  let v78 : BitVec 32 := Scalar.muli v2 c2048_i32_58
  let v79 : Index := Scalar.indexCast v78
  let c0_59 : Index := 0#32
  ![v79.toNat, 0]
def k0_dev5 (d0 : Dev nD) : Nat :=
  let c0_i32_63 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_62 : BitVec 32 := 2#32
  let v83 : BitVec 32 := Scalar.muli v6 c2_i32_62
  let v84 : BitVec 32 := Scalar.addi c0_i32_63 v83
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_64 : BitVec 32 := 1#32
  let v85 : BitVec 32 := Scalar.muli v5 c1_i32_64
  let v86 : BitVec 32 := Scalar.addi v84 v85
  v86.toNat
def k0_off7 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32_22 : BitVec 32 := 2048#32
  let v32 : BitVec 32 := Scalar.muli v2 c2048_i32_22
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c512_i32_23 : BitVec 32 := 512#32
  let v33 : BitVec 32 := Scalar.muli v7 c512_i32_23
  ![v32.toNat, v33.toNat]
def k0_dev6 (d0 : Dev nD) : Nat :=
  let c0_i32_68 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_67 : BitVec 32 := 2#32
  let v87 : BitVec 32 := Scalar.muli v2 c2_i32_67
  let v88 : BitVec 32 := Scalar.addi c0_i32_68 v87
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_69 : BitVec 32 := 1#32
  let v89 : BitVec 32 := Scalar.muli v7 c1_i32_69
  let v90 : BitVec 32 := Scalar.addi v88 v89
  v90.toNat
def k0_off8 (d0 : Dev nD) : Fin 2 → Nat :=
  let c0_88 : Index := 0#32
  let c1024_i32_87 : BitVec 32 := 1024#32
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c512_i32_86 : BitVec 32 := 512#32
  let v112 : BitVec 32 := Scalar.muli v7 c512_i32_86
  let v113 : BitVec 32 := Scalar.addi c1024_i32_87 v112
  let v114 : Index := Scalar.indexCast v113
  ![0, v114.toNat]
def k0_off9 (d0 : Dev nD) : Fin 2 → Nat :=
  let c0_91 : Index := 0#32
  let c1024_i32_90 : BitVec 32 := 1024#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_89 : BitVec 32 := 512#32
  let v118 : BitVec 32 := Scalar.muli v5 c512_i32_89
  let v119 : BitVec 32 := Scalar.addi c1024_i32_90 v118
  let v120 : Index := Scalar.indexCast v119
  ![0, v120.toNat]
def k0_dev7 (d0 : Dev nD) : Nat :=
  let c0_i32_95 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_94 : BitVec 32 := 2#32
  let v124 : BitVec 32 := Scalar.muli v2 c2_i32_94
  let v125 : BitVec 32 := Scalar.addi c0_i32_95 v124
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_96 : BitVec 32 := 1#32
  let v126 : BitVec 32 := Scalar.muli v7 c1_i32_96
  let v127 : BitVec 32 := Scalar.addi v125 v126
  v127.toNat
def k0_off10 (d0 : Dev nD) : Fin 2 → Nat :=
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2048_i32_24 : BitVec 32 := 2048#32
  let v34 : BitVec 32 := Scalar.muli v6 c2048_i32_24
  let c1024_i32_26 : BitVec 32 := 1024#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_25 : BitVec 32 := 512#32
  let v35 : BitVec 32 := Scalar.muli v5 c512_i32_25
  let v36 : BitVec 32 := Scalar.addi c1024_i32_26 v35
  ![v34.toNat, v36.toNat]
def k0_dev8 (d0 : Dev nD) : Nat :=
  let c0_i32_99 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_98 : BitVec 32 := 2#32
  let v128 : BitVec 32 := Scalar.muli v6 c2_i32_98
  let v129 : BitVec 32 := Scalar.addi c0_i32_99 v128
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_100 : BitVec 32 := 1#32
  let v130 : BitVec 32 := Scalar.muli v5 c1_i32_100
  let v131 : BitVec 32 := Scalar.addi v129 v130
  v131.toNat
def k0_off11 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32_125 : BitVec 32 := 2048#32
  let v163 : BitVec 32 := Scalar.muli v2 c2048_i32_125
  let v165 : Index := Scalar.indexCast v163
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_126 : BitVec 32 := 512#32
  let v164 : BitVec 32 := Scalar.muli v5 c512_i32_126
  let v166 : Index := Scalar.indexCast v164
  ![v165.toNat, v166.toNat]
def k0_off12 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32_103 : BitVec 32 := 2048#32
  let v139 : BitVec 32 := Scalar.muli v2 c2048_i32_103
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_104 : BitVec 32 := 512#32
  let v140 : BitVec 32 := Scalar.muli v5 c512_i32_104
  ![v139.toNat, v140.toNat]
def k0_dev9 (d0 : Dev nD) : Nat :=
  let c0_i32_133 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_132 : BitVec 32 := 2#32
  let v176 : BitVec 32 := Scalar.muli v2 c2_i32_132
  let v177 : BitVec 32 := Scalar.addi c0_i32_133 v176
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_134 : BitVec 32 := 1#32
  let v178 : BitVec 32 := Scalar.muli v7 c1_i32_134
  let v179 : BitVec 32 := Scalar.addi v177 v178
  v179.toNat
def k0_off13 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32_143 : BitVec 32 := 2048#32
  let v196 : BitVec 32 := Scalar.muli v2 c2048_i32_143
  let v199 : Index := Scalar.indexCast v196
  let c1024_i32_145 : BitVec 32 := 1024#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_144 : BitVec 32 := 512#32
  let v197 : BitVec 32 := Scalar.muli v5 c512_i32_144
  let v198 : BitVec 32 := Scalar.addi c1024_i32_145 v197
  let v200 : Index := Scalar.indexCast v198
  ![v199.toNat, v200.toNat]
def k0_off14 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32_108 : BitVec 32 := 2048#32
  let v144 : BitVec 32 := Scalar.muli v2 c2048_i32_108
  let c1024_i32_110 : BitVec 32 := 1024#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_109 : BitVec 32 := 512#32
  let v145 : BitVec 32 := Scalar.muli v5 c512_i32_109
  let v146 : BitVec 32 := Scalar.addi c1024_i32_110 v145
  ![v144.toNat, v146.toNat]
def k0_dev10 (d0 : Dev nD) : Nat :=
  let c0_i32_153 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_152 : BitVec 32 := 2#32
  let v211 : BitVec 32 := Scalar.muli v6 c2_i32_152
  let v212 : BitVec 32 := Scalar.addi c0_i32_153 v211
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_154 : BitVec 32 := 1#32
  let v213 : BitVec 32 := Scalar.muli v5 c1_i32_154
  let v214 : BitVec 32 := Scalar.addi v212 v213
  v214.toNat
def k0_dev11 (d0 : Dev nD) : Nat :=
  let c0_i32_168 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_167 : BitVec 32 := 2#32
  let v235 : BitVec 32 := Scalar.muli v6 c2_i32_167
  let v236 : BitVec 32 := Scalar.addi c0_i32_168 v235
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_169 : BitVec 32 := 1#32
  let v237 : BitVec 32 := Scalar.muli v5 c1_i32_169
  let v238 : BitVec 32 := Scalar.addi v236 v237
  v238.toNat
def k0_dev12 (d0 : Dev nD) : Nat :=
  let c0_i32_185 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_184 : BitVec 32 := 2#32
  let v259 : BitVec 32 := Scalar.muli v2 c2_i32_184
  let v260 : BitVec 32 := Scalar.addi c0_i32_185 v259
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_186 : BitVec 32 := 1#32
  let v261 : BitVec 32 := Scalar.muli v7 c1_i32_186
  let v262 : BitVec 32 := Scalar.addi v260 v261
  v262.toNat
abbrev stage0_0 : Fin 1 → Memref sig .tc .vmem S4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x4096 : Shape := ⟨2, ![8192, 4096]⟩
abbrev S2x4096x2x2048 : Shape := ⟨4, ![2, 4096, 2, 2048]⟩
abbrev S_ : Shape := ⟨0, ![]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2x4096x2x2048, .f32⟩
  | .hbm, ⟨2, _⟩ => ⟨S_, .f32⟩
  | .hbm, ⟨3, _⟩ => ⟨S4096x2048, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Regions.lean ====
/-
# The regions of a device's buffers, and what views of them read

A device's block has 4096 rows and 2048 columns. Its left half (columns below 1024) is split by rows, its right half by
columns; each half is split once more the other way. This module names the four kinds of rectangle the kernel's
transfers, loads and stores address, says which indices each contains, and how they make up the buffer.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The two neighbours -/

/-- The neighbour along the first mesh axis. -/
def px (c : Dev nD) : Dev nD := ⟨((c.val % 2) + 2) - 2 * (c.val / 2), by have := c.isLt; unfold nD at *; omega⟩
/-- The neighbour along the second mesh axis. -/
def py (c : Dev nD) : Dev nD := ⟨(2 * (c.val / 2) + 1) - (c.val % 2), by have := c.isLt; unfold nD at *; omega⟩

theorem px_px (c : Dev nD) : px (px c) = c := by revert c; decide
theorem py_py (c : Dev nD) : py (py c) = c := by revert c; decide
theorem px_py (c : Dev nD) : px (py c) = py (px c) := by revert c; decide
theorem px_div (c : Dev nD) : (px c).val / 2 = 1 - c.val / 2 := by revert c; decide
theorem px_mod (c : Dev nD) : (px c).val % 2 = c.val % 2 := by revert c; decide
theorem py_div (c : Dev nD) : (py c).val / 2 = c.val / 2 := by revert c; decide
theorem py_mod (c : Dev nD) : (py c).val % 2 = 1 - c.val % 2 := by revert c; decide
theorem div_lt (c : Dev nD) : c.val / 2 < 2 := by revert c; decide
theorem mod_lt (c : Dev nD) : c.val % 2 < 2 := by revert c; decide

theorem dev1_eq (c : Dev nD) : (⟨k0_dev1 c, k0_dev1_lt c⟩ : Dev nD) = px c := Fin.ext (k0_dev1_eq c)
theorem dev2_eq (c : Dev nD) : (⟨k0_dev2 c, k0_dev2_lt c⟩ : Dev nD) = py c := Fin.ext (k0_dev2_eq c)
theorem dev3_eq (c : Dev nD) : (⟨k0_dev3 c, k0_dev3_lt c⟩ : Dev nD) = px c := Fin.ext (k0_dev3_eq c)
theorem dev4_eq (c : Dev nD) : (⟨k0_dev4 c, k0_dev4_lt c⟩ : Dev nD) = py c := Fin.ext (k0_dev4_eq c)
theorem dev5_eq (c : Dev nD) : (⟨k0_dev5 c, k0_dev5_lt c⟩ : Dev nD) = px c := Fin.ext (k0_dev5_eq c)
theorem dev6_eq (c : Dev nD) : (⟨k0_dev6 c, k0_dev6_lt c⟩ : Dev nD) = py c := Fin.ext (k0_dev6_eq c)
theorem dev7_eq (c : Dev nD) : (⟨k0_dev7 c, k0_dev7_lt c⟩ : Dev nD) = py c := Fin.ext (k0_dev7_eq c)
theorem dev8_eq (c : Dev nD) : (⟨k0_dev8 c, k0_dev8_lt c⟩ : Dev nD) = px c := Fin.ext (k0_dev8_eq c)
theorem dev9_eq (c : Dev nD) : (⟨k0_dev9 c, k0_dev9_lt c⟩ : Dev nD) = py c := Fin.ext (k0_dev9_eq c)
theorem dev10_eq (c : Dev nD) : (⟨k0_dev10 c, k0_dev10_lt c⟩ : Dev nD) = px c := Fin.ext (k0_dev10_eq c)
theorem dev11_eq (c : Dev nD) : (⟨k0_dev11 c, k0_dev11_lt c⟩ : Dev nD) = px c := Fin.ext (k0_dev11_eq c)
theorem dev12_eq (c : Dev nD) : (⟨k0_dev12 c, k0_dev12_lt c⟩ : Dev nD) = py c := Fin.ext (k0_dev12_eq c)

/-! ## Boxes of indices -/

/-- An index of the block. -/
abbrev I2 : Type := S4096x2048.Idx

/-- The indices whose row lies in the `h` rows from `a` and whose column lies in the `w` columns from `b`. -/
def box (a h b w : ℕ) : Finset I2 :=
  Finset.univ.filter fun i => (a ≤ (i (0 : Fin 2)).val ∧ (i (0 : Fin 2)).val < a + h) ∧ (b ≤ (i (1 : Fin 2)).val ∧ (i (1 : Fin 2)).val < b + w)

theorem mem_box {a h b w : ℕ} {i : I2} :
    i ∈ box a h b w ↔ (a ≤ (i (0 : Fin 2)).val ∧ (i (0 : Fin 2)).val < a + h) ∧ (b ≤ (i (1 : Fin 2)).val ∧ (i (1 : Fin 2)).val < b + w) := by
  unfold box; rw [Finset.mem_filter]; exact ⟨fun h => h.2, fun h => ⟨Finset.mem_univ _, h⟩⟩

theorem row_lt (i : I2) : (i (0 : Fin 2)).val < 4096 := (i (0 : Fin 2)).isLt
theorem col_lt (i : I2) : (i (1 : Fin 2)).val < 2048 := (i (1 : Fin 2)).isLt

/-- A unit-stride rectangle of the block holds the indices of a box. -/
theorem set_unit {off size : Fin 2 → ℕ} (inb : ∀ a, off a + size a ≤ S4096x2048.size a) :
    (Rect.unit (s := S4096x2048) off size inb).set = box (off 0) (size 0) (off 1) (size 1) := by
  ext i
  rw [Rect.mem_set_unit, mem_box]
  exact Fin.forall_fin_two

/-- The device's own half of the rows of the left half; -/
abbrev LM (c : Dev nD) : Finset I2 := box (2048 * (c.val / 2)) 2048 0 1024
/-- the other half of the rows; -/
abbrev LO (c : Dev nD) : Finset I2 := box (2048 - 2048 * (c.val / 2)) 2048 0 1024
/-- the device's own columns of the right half; -/
abbrev RM (c : Dev nD) : Finset I2 := box 0 4096 (512 * (c.val % 2) + 1024) 512
/-- the other columns of the right half. -/
abbrev RO (c : Dev nD) : Finset I2 := box 0 4096 (1536 - 512 * (c.val % 2)) 512
/-- Of the device's own rows of the left half, its own columns; -/
abbrev LMm (c : Dev nD) : Finset I2 := box (2048 * (c.val / 2)) 2048 (512 * (c.val % 2)) 512
/-- the other columns. -/
abbrev LMo (c : Dev nD) : Finset I2 := box (2048 * (c.val / 2)) 2048 (512 - 512 * (c.val % 2)) 512
/-- Of the device's own columns of the right half, its own rows; -/
abbrev RMm (c : Dev nD) : Finset I2 := box (2048 * (c.val / 2)) 2048 (512 * (c.val % 2) + 1024) 512
/-- the other rows. -/
abbrev RMo (c : Dev nD) : Finset I2 := box (2048 - 2048 * (c.val / 2)) 2048 (512 * (c.val % 2) + 1024) 512

theorem LO_px (c : Dev nD) : LO (px c) = LM c := by
  unfold LO LM; rw [px_div]; congr 1; have := div_lt c; omega
theorem RO_py (c : Dev nD) : RO (py c) = RM c := by
  unfold RO RM; rw [py_mod]; congr 1; have := mod_lt c; omega
theorem LM_px (c : Dev nD) : LM (px c) = LO c := by rw [← LO_px, px_px]
theorem RM_py (c : Dev nD) : RM (py c) = RO c := by rw [← RO_py, py_py]
theorem LMo_py (c : Dev nD) : LMo (py c) = LMm c := by
  unfold LMo LMm; rw [py_mod, py_div]; congr 1; have := mod_lt c; omega
theorem RMo_px (c : Dev nD) : RMo (px c) = RMm c := by
  unfold RMo RMm; rw [px_mod, px_div]; congr 1; have := div_lt c; omega
theorem LMm_py (c : Dev nD) : LMm (py c) = LMo c := by rw [← LMo_py, py_py]
theorem RMm_px (c : Dev nD) : RMm (px c) = RMo c := by rw [← RMo_px, px_px]

/-! ### How they make up the block -/

theorem LM_union (c : Dev nD) : LM c = LMm c ∪ LMo c := by
  ext i; rw [Finset.mem_union, mem_box, mem_box, mem_box]; have := mod_lt c; have := col_lt i; omega
theorem LM_disj (c : Dev nD) : Disjoint (LMm c) (LMo c) := by
  rw [Finset.disjoint_left]; intro i; rw [mem_box, mem_box]; have := mod_lt c; omega
theorem RM_union (c : Dev nD) : RM c = RMm c ∪ RMo c := by
  ext i; rw [Finset.mem_union, mem_box, mem_box, mem_box]; have := div_lt c; have := row_lt i; omega
theorem RM_disj (c : Dev nD) : Disjoint (RMm c) (RMo c) := by
  rw [Finset.disjoint_left]; intro i; rw [mem_box, mem_box]; have := div_lt c; omega

/-- The left half and the right half. -/
abbrev LH : Finset I2 := box 0 4096 0 1024
abbrev RH : Finset I2 := box 0 4096 1024 1024

theorem LH_union (c : Dev nD) : LH = LM c ∪ LO c := by
  ext i; rw [Finset.mem_union, mem_box, mem_box, mem_box]; have := div_lt c; have := row_lt i; omega
theorem LH_disj (c : Dev nD) : Disjoint (LM c) (LO c) := by
  rw [Finset.disjoint_left]; intro i; rw [mem_box, mem_box]; have := div_lt c; omega
theorem RH_union (c : Dev nD) : RH = RM c ∪ RO c := by
  ext i; rw [Finset.mem_union, mem_box, mem_box, mem_box]; have := mod_lt c; have := row_lt i; omega
theorem RH_disj (c : Dev nD) : Disjoint (RM c) (RO c) := by
  rw [Finset.disjoint_left]; intro i; rw [mem_box, mem_box]; have := mod_lt c; omega
theorem univ_union : (Finset.univ : Finset I2) = LH ∪ RH := by
  ext i; rw [Finset.mem_union, mem_box, mem_box]; have := row_lt i; have := col_lt i
  constructor
  · intro _; omega
  · intro _; exact Finset.mem_univ _
theorem half_disj : Disjoint LH RH := by
  rw [Finset.disjoint_left]; intro i; rw [mem_box, mem_box]; omega

/-! ## The buffers, and the views of them the kernel addresses -/

abbrev xM : Memref sig .tc .hbm S4096x2048 .f32 := Memref.whole main_arg0
abbrev oM : Memref sig .tc .vmem S4096x2048 .f32 := Memref.whole cc0_stg0_0
abbrev xaM : Memref sig .tc .vmem S2048x1024 .f32 := Memref.whole cc0_scratch0
abbrev xbM : Memref sig .tc .vmem S4096x512 .f32 := Memref.whole cc0_scratch1
abbrev raM : Memref sig .tc .vmem S2048x512 .f32 := Memref.whole cc0_scratch2
abbrev rbM : Memref sig .tc .vmem S2048x512 .f32 := Memref.whole cc0_scratch3

/-- The rectangle of a block at offsets `off`, of a half's rows by a half's columns; -/
abbrev rL (off : Fin 2 → ℕ) (inb : ∀ a, off a + S2048x1024.size a ≤ S4096x2048.size a) : Rect S4096x2048 :=
  Rect.unit (s := S4096x2048) off S2048x1024.size inb
/-- of all the rows by a quarter's columns; -/
abbrev rR (off : Fin 2 → ℕ) (inb : ∀ a, off a + S4096x512.size a ≤ S4096x2048.size a) : Rect S4096x2048 :=
  Rect.unit (s := S4096x2048) off S4096x512.size inb
/-- of a half's rows by a quarter's columns. -/
abbrev rQ (off : Fin 2 → ℕ) (inb : ∀ a, off a + S2048x512.size a ≤ S4096x2048.size a) : Rect S4096x2048 :=
  Rect.unit (s := S4096x2048) off S2048x512.size inb

/-- The indices under each rectangle the program names. -/
theorem set1 (c : Dev nD) : (rL (k0_off1 c) (k0_off1_inb c)).set = LM c := by rw [set_unit, k0_off1_eq]; rfl
theorem set2 (c : Dev nD) : (rR (k0_off2 c) (k0_off2_inb c)).set = RM c := by rw [set_unit, k0_off2_eq]; rfl
theorem set3 (c : Dev nD) : (rL (k0_off3 c) (k0_off3_inb c)).set = LO c := by rw [set_unit, k0_off3_eq]; rfl
theorem set4 (c : Dev nD) : (rR (k0_off4 c) (k0_off4_inb c)).set = RO c := by rw [set_unit, k0_off4_eq]; rfl
theorem set5 (c : Dev nD) : (rL (k0_off5 c) (k0_off5_inb c)).set = LO c := by rw [set_unit, k0_off5_eq]; rfl
theorem set6 (c : Dev nD) : (rL (k0_off6 c) (k0_off6_inb c)).set = LM c := by rw [set_unit, k0_off6_eq]; rfl
theorem set7 (c : Dev nD) : (rQ (k0_off7 c) (k0_off7_inb c)).set = LMo c := by rw [set_unit, k0_off7_eq]; rfl
theorem set8 (c : Dev nD) : (rR (k0_off8 c) (k0_off8_inb c)).set = RO c := by rw [set_unit, k0_off8_eq]; rfl
theorem set9 (c : Dev nD) : (rR (k0_off9 c) (k0_off9_inb c)).set = RM c := by rw [set_unit, k0_off9_eq]; rfl
theorem set10 (c : Dev nD) : (rQ (k0_off10 c) (k0_off10_inb c)).set = RMo c := by rw [set_unit, k0_off10_eq]; rfl
theorem set11 (c : Dev nD) : (rQ (k0_off11 c) (k0_off11_inb c)).set = LMm c := by rw [set_unit, k0_off11_eq]; rfl
theorem set12 (c : Dev nD) : (rQ (k0_off12 c) (k0_off12_inb c)).set = LMm c := by rw [set_unit, k0_off12_eq]; rfl
theorem set13 (c : Dev nD) : (rQ (k0_off13 c) (k0_off13_inb c)).set = RMm c := by rw [set_unit, k0_off13_eq]; rfl
theorem set14 (c : Dev nD) : (rQ (k0_off14 c) (k0_off14_inb c)).set = RMm c := by rw [set_unit, k0_off14_eq]; rfl

/-- Rectangles of one size at equal offsets place their indices alike. -/
theorem emb_congr {s : Shape} {off off' size : Fin s.rank → ℕ} {inb inb'} (h : off = off') (j : (⟨s.rank, size⟩ : Shape).Idx) :
    (Rect.unit (s := s) off size inb).emb j = (Rect.unit (s := s) off' size inb').emb j := by subst h; rfl

/-- The offsets of one device's rectangle that are another's. -/
theorem off3_px (c : Dev nD) : k0_off3 (px c) = k0_off1 c := by revert c; decide +kernel
theorem off5_px (c : Dev nD) : k0_off5 (px c) = k0_off1 c := by revert c; decide +kernel
theorem off4_py (c : Dev nD) : k0_off4 (py c) = k0_off2 c := by revert c; decide +kernel
theorem off8_py (c : Dev nD) : k0_off8 (py c) = k0_off2 c := by revert c; decide +kernel
theorem off7_py (c : Dev nD) : k0_off7 (py c) = k0_off11 c := by revert c; decide +kernel
theorem off10_px (c : Dev nD) : k0_off10 (px c) = k0_off13 c := by revert c; decide +kernel
theorem off61 (c : Dev nD) : k0_off6 c = k0_off1 c := by revert c; decide +kernel
theorem off92 (c : Dev nD) : k0_off9 c = k0_off2 c := by revert c; decide +kernel

/-! ## Elements written through a view -/

section Written
variable {Ix : Type} [DecidableEq Ix] {Name : Type} [DecidableEq Name] {U : Type} [URA U] {Lvl : Type}

local notation "𝕄₀" => MT nD τ sig Ix (Elt F) Name U Lvl

omit [FloatOps F] in
/-- What is written through a view whole, on the view's own elements, is any contents the view reads the same of. -/
theorem written_eq {sp : Space} {s : Shape} {e : EltTy} (c : Thread nD τ) (v : View sig c.2.kind sp s e) (f g : Buf (Elt F) (v.loc c)) (w : s.Idx → Elt F e)
    (h : v.read (Elt F) g = w) :
    (v.loc c ↦[v.set]{fullShare} v.write (Elt F) f w Finset.univ : sProp 𝕄₀) = v.loc c ↦[v.set]{fullShare} g :=
  pointsTo_congr fun i hi => by
    obtain ⟨x, -, rfl⟩ := Finset.mem_map.mp hi
    rw [View.write_emb_of_mem _ _ (Finset.mem_univ _), ← h, View.read_apply, cast_cast, cast_eq]

end Written

/-! ## What the stored values are -/

theorem pay1_eq (a b : Vec F S2048x1024 .f32) : k0_pay1 a b = addf a b := by
  unfold k0_pay1; rw [shapeCast_self]
theorem pay2_eq (a b : Vec F S4096x512 .f32) : k0_pay2 a b = addf a b := by
  unfold k0_pay2; rw [shapeCast_self]
theorem pay3_eq (a b : Vec F S2048x512 .f32) : k0_pay3 a b = addf a b := by
  unfold k0_pay3; rw [shapeCast_self]
theorem pay4_eq (a b : Vec F S2048x512 .f32) : k0_pay4 a b = addf a b := by
  unfold k0_pay4; rw [shapeCast_self]

end Cert.AllReduce

end
-- ==== Proof.Protocol.lean ====
/-
# The protocol of the kernel's semaphores

Each device has twenty-one semaphore cells: the barrier, two credits, eight cells counting transfers sent, eight counting
transfers received and two counting copies. Every cell is used for one round. This module says what each duty of that
round adds to its cell and what it hands to the cell's owner, which device pays which duty and in what order, and derives
one rule for each kind of instruction the kernel runs.
-/
module

public import proofs.«01_k».proof.Proof.Regions

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.RefSig (tileCredit)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- The contents of a block. -/
abbrev Blk (F : FTy → Type) : Type := Vec F S4096x2048 .f32

/-- A block's elements under a rectangle of it. -/
def under (r : Rect S4096x2048) (f : Blk F) : Vec F r.shape .f32 := fun j => f (r.emb j)

variable (m : (ℓ : Loc nD τ sig) → Buf (Elt F) ℓ)

/-! ## Contents -/

/-- A device's block of the source. -/
def X (c : Dev nD) : Blk F := m ((c : Thread nD τ).loc main_arg0)
/-- The sum over the first axis, as the device computes it; -/
def E1 (c : Dev nD) : Blk F := addf (X m c) (X m (px c))
/-- that sum over the second axis. -/
def E2 (c : Dev nD) : Blk F := addf (E1 m c) (E1 m (py c))
/-- The sum over the second axis, as the device computes it; -/
def D1 (c : Dev nD) : Blk F := addf (X m c) (X m (py c))
/-- that sum over the first axis. -/
def D2 (c : Dev nD) : Blk F := addf (D1 m c) (D1 m (px c))

/-- The device that computes an element's final sum: it has the element's half of the rows and quarter of the columns. -/
def own (i : I2) : Dev nD := ⟨2 * ((i (0 : Fin 2)).val / 2048) + ((i (1 : Fin 2)).val / 512) % 2, by
  have := row_lt i; unfold nD; omega⟩

/-- What every device's result holds. -/
def total : Blk F := fun i => if (i (1 : Fin 2)).val < 1024 then E2 m (own i) i else D2 m (own i) i

/-! ## The assertions about buffers -/

/-- Elements of a device's source, and of its result's staging buffer; -/
abbrev xP (c : Dev nD) (R : Finset I2) (f : Blk F) : sProp 𝕄 := (c : Thread nD τ).loc main_arg0 ↦[R]{fullShare} f
abbrev oP (c : Dev nD) (R : Finset I2) (f : Blk F) : sProp 𝕄 := (c : Thread nD τ).loc cc0_stg0_0 ↦[R]{fullShare} f
/-- its copies of the parts of its source it adds to what it receives; -/
abbrev xaP (c : Dev nD) (f : Vec F S2048x1024 .f32) : sProp 𝕄 := (c : Thread nD τ).loc cc0_scratch0 ↦{fullShare} f
abbrev xbP (c : Dev nD) (f : Vec F S4096x512 .f32) : sProp 𝕄 := (c : Thread nD τ).loc cc0_scratch1 ↦{fullShare} f
/-- the two buffers the second step's transfers land in. -/
abbrev raP (c : Dev nD) (f : Vec F S2048x512 .f32) : sProp 𝕄 := (c : Thread nD τ).loc cc0_scratch2 ↦{fullShare} f
abbrev rbP (c : Dev nD) (f : Vec F S2048x512 .f32) : sProp 𝕄 := (c : Thread nD τ).loc cc0_scratch3 ↦{fullShare} f

/-! ## The cells -/

/-- The barrier semaphore. -/
abbrev barS : Sem sig := (SemArray.scalar (sig.barrier 0 rfl) : Sems sig S_).sem

/-- The cells of a device: 0 the barrier, 1 and 2 the credits, 3 to 10 the sends, 11 to 18 the receives, 19 and 20 the copies. -/
def csem (k : Fin 21) : SemLoc sig :=
  match k.val with
  | 0 => .reg barS | 1 => .reg (0 : Fin 3) | 2 => .reg (1 : Fin 3)
  | 3 => .dma (1 : Fin 19) | 4 => .dma (2 : Fin 19) | 5 => .dma (3 : Fin 19) | 6 => .dma (4 : Fin 19) | 7 => .dma (5 : Fin 19)
  | 8 => .dma (6 : Fin 19) | 9 => .dma (7 : Fin 19) | 10 => .dma (8 : Fin 19)
  | 11 => .dma (9 : Fin 19) | 12 => .dma (10 : Fin 19) | 13 => .dma (11 : Fin 19) | 14 => .dma (12 : Fin 19) | 15 => .dma (13 : Fin 19)
  | 16 => .dma (14 : Fin 19) | 17 => .dma (15 : Fin 19) | 18 => .dma (16 : Fin 19)
  | 19 => .dma (17 : Fin 19) | _ => .dma (18 : Fin 19)

/-- Which cell a semaphore is, if it is one of them. -/
def dec (s : SemLoc sig) : Option (Fin 21) := (List.finRange 21).find? fun k => decide (csem k = s)

theorem csem_inj : ∀ k k' : Fin 21, csem k = csem k' → k = k' := by decide
theorem dec_csem : ∀ k, dec (csem k) = some k := by decide

abbrev kcell (ck : Dev nD × Fin 21) : GSem nD τ sig := ((ck.1 : Thread nD τ), csem ck.2)

theorem kcell_inj {a b : Dev nD × Fin 21} (h : kcell a = kcell b) : a = b := by
  obtain ⟨c, k⟩ := a
  obtain ⟨c', k'⟩ := b
  have h1 : c = c' := congrArg (fun g : GSem nD τ sig => g.1.1) h
  have h2 : k = k' := csem_inj _ _ (congrArg Prod.snd h)
  rw [h1, h2]

/-- The units a duty of a cell adds: one to a barrier or a credit, a transfer's size to the others. -/
def amt (k : Fin 21) : ℕ :=
  match k.val with
  | 0 => 1 | 1 => 1 | 2 => 1
  | 3 => 262144 | 4 => 262144 | 5 => 131072 | 6 => 131072 | 7 => 131072 | 8 => 131072 | 9 => 262144 | 10 => 262144
  | 11 => 262144 | 12 => 262144 | 13 => 131072 | 14 => 131072 | 15 => 131072 | 16 => 131072 | 17 => 262144 | 18 => 262144
  | 19 => 262144 | _ => 262144

theorem amt_pos : ∀ k, 0 < amt k := by decide

/-- A barrier has two duties, one for each neighbour; every other cell has one. -/
def dutyOf (k : Fin 21) : Finset Bool := if k = 0 then Finset.univ else {false}

/-- The units a cell's round adds up to. -/
def whole (k : Fin 21) : ℕ := if k = 0 then 2 else amt k

theorem sum_duty : ∀ k, (∑ _d ∈ dutyOf k, amt k) = whole k := by decide

/-! ## What each duty hands over -/

/-- What the duties of cell `k` of device `c` hand to `c`.

The barrier's two hand over each neighbour's landing places for the first two steps. A credit hands over the region of a
neighbour's result that the last step writes. A receive hands over the region landed in, with what it holds, and where
the next step writes into the sender's result, that region. A send or a copy hands its source back. -/
def pay (c : Dev nD) (k : Fin 21) (d : Bool) : sProp 𝕄 :=
  match k.val with
  | 0 => if d then iprop((∃ f, oP (py c) (RM c) f) ∗ ∃ f, raP (py c) f) else iprop((∃ f, oP (px c) (LM c) f) ∗ ∃ f, rbP (px c) f)
  | 1 => iprop(∃ f, oP (px c) (LM c) f)
  | 2 => iprop(∃ f, oP (py c) (RM c) f)
  | 3 => xP c (LO c) (X m c)
  | 4 => xP c (RO c) (X m c)
  | 7 => oP c (LMm c) (total m)
  | 8 => oP c (RMm c) (total m)
  | 9 => oP c (LM c) (total m)
  | 10 => oP c (RM c) (total m)
  | 11 => iprop(∃ f : Blk F, ⌜under (rL (k0_off5 c) (k0_off5_inb c)) f = under (rL (k0_off1 c) (k0_off1_inb c)) (X m (px c))⌝ ∗ oP c (LO c) f)
  | 12 => iprop(∃ f : Blk F, ⌜under (rR (k0_off8 c) (k0_off8_inb c)) f = under (rR (k0_off2 c) (k0_off2_inb c)) (X m (py c))⌝ ∗ oP c (RO c) f)
  | 13 => iprop(raP c (under (rQ (k0_off11 c) (k0_off11_inb c)) (E1 m (py c))) ∗ ∃ f, oP (py c) (LMm c) f)
  | 14 => iprop(rbP c (under (rQ (k0_off13 c) (k0_off13_inb c)) (D1 m (px c))) ∗ ∃ f, oP (px c) (RMm c) f)
  | 15 => oP c (LMo c) (total m)
  | 16 => oP c (RMo c) (total m)
  | 17 => oP c (LO c) (total m)
  | 18 => oP c (RO c) (total m)
  | 19 => iprop(xP c (LM c) (X m c) ∗ xaP c (under (rL (k0_off1 c) (k0_off1_inb c)) (X m c)))
  | 20 => iprop(xP c (RM c) (X m c) ∗ xbP c (under (rR (k0_off2 c) (k0_off2_inb c)) (X m c)))
  | _ => iprop(emp)

instance pay_storable (c : Dev nD) (k : Fin 21) (d : Bool) : BI.Storable (upEmb : UEmb _ 𝕄) (pay m c k d) := by
  unfold pay
  (repeat' split) <;> infer_instance

/-- The schedule: one round for each cell of each device. -/
def sch : Rounds.Schedule (GSem nD τ sig) Bool 𝕄 where
  duties g r := if r = 0 ∧ g.1.2 = .tc then (dec g.2).elim ∅ dutyOf else ∅
  unitless _ := False
  amount g _ _ := (dec g.2).elim 1 amt
  payload g _ d := (dec g.2).elim iprop(emp) fun k => pay m g.1.1 k d
  amount_pos g _ _ _ := by
    cases dec g.2 with
    | none => exact Nat.one_pos
    | some k => exact amt_pos k

instance sch_storable (g : GSem nD τ sig) (r : ℕ) (d : Bool) : BI.Storable (upEmb : UEmb _ 𝕄) ((sch m).payload g r d) := by
  show BI.Storable upEmb ((dec g.2).elim iprop(emp) fun k => pay m g.1.1 k d)
  cases dec g.2 with
  | none => exact BI.Storable.emp _
  | some k => exact pay_storable m _ k d

theorem sch_duties (c : Dev nD) (k : Fin 21) : (sch m).duties (kcell (c, k)) 0 = dutyOf k := by
  show (if 0 = 0 ∧ ((c : Thread nD τ)).2 = .tc then (dec (csem k)).elim ∅ dutyOf else ∅) = _
  rw [if_pos ⟨rfl, rfl⟩, dec_csem]; rfl
theorem sch_later (g : GSem nD τ sig) : ∀ r, 1 ≤ r → (sch m).duties g r = ∅ := fun r hr => if_neg fun h => by omega
theorem sch_amount (c : Dev nD) (k : Fin 21) (d : Bool) : (sch m).amount (kcell (c, k)) 0 d = amt k := by
  show (dec (csem k)).elim 1 amt = _
  rw [dec_csem]; rfl
theorem sch_payload (c : Dev nD) (k : Fin 21) (d : Bool) : (sch m).payload (kcell (c, k)) 0 d = pay m c k d := by
  show (dec (csem k)).elim iprop(emp) (fun k => pay m c k d) = _
  rw [dec_csem]; rfl
theorem sch_expect (c : Dev nD) (k : Fin 21) : (sch m).expect (kcell (c, k)) 0 = whole k := by
  unfold Schedule.expect Schedule.amountOf
  rw [sch_duties, Finset.sum_congr rfl fun d _ => sch_amount m c k d]
  exact sum_duty k

/-- What the whole round of a cell hands to its owner. -/
def payAll (c : Dev nD) (k : Fin 21) : sProp 𝕄 := if k = 0 then iprop(pay m c 0 false ∗ pay m c 0 true) else pay m c k false

theorem sch_rest (c : Dev nD) (k : Fin 21) :
    bigSep ((sch m).duties (kcell (c, k)) 0 \ ∅) (fun d => (sch m).payload (kcell (c, k)) 0 d) = payAll m c k := by
  rw [Finset.sdiff_empty, sch_duties, bigSep_congr fun d _ => sch_payload m c k d]
  unfold dutyOf payAll
  by_cases h : k = 0
  · subst h
    rw [if_pos rfl, if_pos rfl, bigSep_univ_eq_bigSepL [false, true] (by decide) (by decide), bigSepL_cons_cons, bigSepL_singleton]
    rfl
  · rw [if_neg h, if_neg h, bigSep_singleton]

/-! ## What a device owes, and the levels of the cells -/

/-- The units of a list of duties. -/
def owedOf : List (Dev nD × Fin 21) → CellTallies nD τ sig Unit
  | [] => 0
  | p :: l => owedOf l + tallyAt (kcell p) () (amt p.2)

/-- The duties a device pays to other devices' cells, in the order it pays them. -/
def dues (c : Dev nD) : List (Dev nD × Fin 21) :=
  [(px c, 0), (py c, 0), (px c, 11), (py c, 12), (px c, 1), (py c, 13), (py c, 2), (px c, 14), (py c, 15), (px c, 16), (px c, 17), (py c, 18)]

theorem owedOf_pos {l : List (Dev nD × Fin 21)} {g : GSem nD τ sig} {u : Unit} (h : 0 < owedOf l g u) : ∃ p ∈ l, g = kcell p := by
  induction l with
  | nil => exact absurd h (Nat.lt_irrefl 0)
  | cons p l ih =>
    unfold owedOf at h
    rw [Pi.add_apply, Finsupp.add_apply, tallyAt_apply] at h
    by_cases hg : g = kcell p ∧ u = ()
    · exact ⟨p, List.mem_cons_self, hg.1⟩
    · rw [if_neg hg, Nat.add_zero] at h
      obtain ⟨q, hq, e⟩ := ih h
      exact ⟨q, List.mem_cons_of_mem _ hq, e⟩

/-- The level of a cell: the barrier first, then each receive in the order the kernel waits for them, each credit beside the
    receive it is waited for with. -/
def lvl : Fin 21 → ℕ
  | 0 => 1 | 1 => 6 | 2 => 6
  | 11 => 2 | 12 => 3 | 13 => 4 | 14 => 5 | 15 => 6 | 16 => 7 | 17 => 8 | 18 => 9
  | _ => 0

def L (g : GSem nD τ sig) : Finset Unit := if g.1.2 = .tc then {()} else ∅
def lv (g : GSem nD τ sig) (_ : Unit) : ℕ := (dec g.2).elim 0 lvl

theorem L_of_ne (g : GSem nD τ sig) (h : g.1.2 ≠ .tc) : L g = ∅ := if_neg h
theorem L_tc (c : Dev nD) (sm : SemLoc sig) : L ((c : Thread nD τ), sm) = {()} := if_pos rfl
theorem lv_kcell (p : Dev nD × Fin 21) (u : Unit) : lv (kcell p) u = lvl p.2 := by
  show (dec (csem p.2)).elim 0 lvl = _
  rw [dec_csem]; rfl

/-- A device may wait on a semaphore of its own whose level is below that of everything it owes. -/
theorem mayWait (c : Dev nD) (sm : SemLoc sig) (l : List (Dev nD × Fin 21)) (h : ∀ p ∈ l, (dec sm).elim 0 lvl < lvl p.2) :
    (levAts L lv : sProp 𝕄) ⊢ MayWait (c : Thread nD τ) sm () (owedOf l) :=
  MayOwe.of_cut (L := L) (lev := lv) ((dec sm).elim 0 lvl)
    (fun p hp => by rw [Finset.mem_singleton.mp hp, L_tc]; exact Finset.mem_singleton_self _)
    (fun g u hg => by
      obtain ⟨p, -, rfl⟩ := owedOf_pos hg
      show u ∈ L ((p.1 : Thread nD τ), csem p.2)
      rw [L_tc]; exact Finset.mem_singleton_self _)
    (fun p hp => by rw [Finset.mem_singleton.mp hp]; exact le_refl _)
    (fun g u hg => by
      obtain ⟨p, hp, rfl⟩ := owedOf_pos hg
      rw [lv_kcell]; exact h p hp)

/-! ## The ghost state -/

/-- Every cell's invariant, and that every cell has reached its round. -/
def records (K : Dev nD × Fin 21 → ℕ) : sProp 𝕄 :=
  iprop((bigSep Finset.univ fun ck : Dev nD × Fin 21 => cellInv ER (sch m) (K ck) (kcell ck))
    ∗ bigSep Finset.univ fun ck : Dev nD × Fin 21 => reached ER (kcell ck) 0)

instance records_persistent (K : Dev nD × Fin 21 → ℕ) : BI.Persistent (records m K) := by unfold records; infer_instance

theorem invs_at (K : Dev nD × Fin 21 → ℕ) (ck : Dev nD × Fin 21) :
    (bigSep Finset.univ fun ck : Dev nD × Fin 21 => (cellInv ER (sch m) (K ck) (kcell ck) : sProp 𝕄)) ⊢ cellInv ER (sch m) (K ck) (kcell ck) :=
  bigSep_elim (Finset.mem_univ ck)
theorem marks_at (ck : Dev nD × Fin 21) :
    (bigSep Finset.univ fun ck : Dev nD × Fin 21 => (reached ER (kcell ck) 0 : sProp 𝕄)) ⊢ reached ER (kcell ck) 0 :=
  bigSep_elim (Finset.mem_univ ck)
theorem inv_at (K : Dev nD × Fin 21 → ℕ) (ck : Dev nD × Fin 21) : records m K ⊢ cellInv ER (sch m) (K ck) (kcell ck) := by
  unfold records
  iintro ⟨#HI, #HR⟩
  iapply (invs_at m K ck); iexact HI
theorem reached_at (K : Dev nD × Fin 21 → ℕ) (ck : Dev nD × Fin 21) : records m K ⊢ reached ER (kcell ck) 0 := by
  unfold records
  iintro ⟨#HI, #HR⟩
  iapply (marks_at (F := F) ck); iexact HR

/-- The token of a duty; a device's position at a cell of its own; its credit there; the cell's counter back at zero; what
    the device still owes. -/
abbrev T (ck : Dev nD × Fin 21) (d : Bool) : sProp 𝕄 := dutyTok ER (kcell ck) 0 d
abbrev A (c : Dev nD) (k : Fin 21) : sProp 𝕄 := atPos ER (kcell (c, k)) 0 ∅ 0
abbrev C (c : Dev nD) (k : Fin 21) : sProp 𝕄 := cred (tallyAt (kcell (c, k)) () (whole k))
abbrev Z (c : Dev nD) (k : Fin 21) : sProp 𝕄 := semVal (kcell (c, k)) 0
def O (c : Dev nD) (l : List (Dev nD × Fin 21)) : sProp 𝕄 := iprop(∃ W, owes (c : Thread nD τ) (owedOf l) W)

/-- The judgement on a device's program. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The rules -/

section Rules

variable (K : Dev nD × Fin 21 → ℕ)

/-- A signal of one unit to a neighbour's barrier or credit. -/
theorem wp_sig (c n : Dev nD) (k : Fin 21) (d : Bool) (l : List (Dev nD × Fin 21)) {n' : Dev nD} (hn : n' = n) {s : Sem sig}
    (hs : SemLoc.reg s = csem k) (hd : d ∈ dutyOf k) (hk : amt k = 1) {α : Type} {Q : α → sProp 𝕄}
    {f : PUnit → Prog (TpuEff nD τ sig (Elt F) Λ₀ .tc) α} :
    iprop(records m K ∗ O c ((n, k) :: l) ∗ T (n, k) d ∗ pay m n k d)
      ⊢ iprop((O c l -∗ WP c (f ⟨⟩) Q) -∗ WP c (.op (.semSignal (n' : Thread nD τ) s 1) f) Q) := by
  subst hn
  unfold O
  iintro ⟨#HK, ⟨%W, HO⟩, HT, HP⟩ Hk
  have hcell : ((n' : Thread nD τ), SemLoc.reg s) = kcell (n', k) := by rw [hs]
  iapply (Rounds.wp_signal 𝒱₀ ER (sch m) (c : Thread nD τ) none (dst := (n' : Thread nD τ)) (sem := s) (κ := K (n', k)) (r := 0) (d := d) (k' := 1)
    (by rw [hcell, sch_duties]; exact hd) (by rw [hcell, sch_amount]; exact hk) () (O₀ := owedOf ((n', k) :: l)) (owedOf l)
    (by rw [hcell]; show owedOf l + tallyAt (kcell (n', k)) () (amt k) = _; rw [hk])) $$ [HO HT HP]
  · rw [hcell]
    isplitr; · iapply (inv_at m K (n', k)); iexact HK
    isplitl [HO]; · iexact HO
    isplitl [HT]; · iexact HT
    isplitl [HP]; · rw [sch_payload]; iexact HP
    iapply (reached_at m K (n', k)); iexact HK
  iintro HO
  iapply Hk
  iexists W; iexact HO

/-- A wait for a cell's whole round: what it hands over comes back with the cell's counter at zero. -/
theorem wp_await (c : Dev nD) (k : Fin 21) (l : List (Dev nD × Fin 21)) {w : TpuEff nD τ sig (Elt F) Λ₀ .tc PUnit} {sm : SemLoc sig} (hs : sm = csem k)
    (hw : ∀ P : PUnit → sProp 𝕄, wpE (defs₀ (F := F)) 𝒱₀ (c : Thread nD τ) none Set.univ w P = waitSpec (c : Thread nD τ) Set.univ sm (whole k) P)
    (hl : ∀ p ∈ l, lvl k < lvl p.2) {α : Type} {Q : α → sProp 𝕄}
    {f : PUnit → Prog (TpuEff nD τ sig (Elt F) Λ₀ .tc) α} :
    iprop(records m K ∗ levAts L lv ∗ O c l ∗ C c k ∗ A c k)
      ⊢ iprop(((O c l ∗ Z c k ∗ payAll m c k) -∗ WP c (f ⟨⟩) Q) -∗ WP c (.op w f) Q) := by
  subst hs
  unfold O
  iintro ⟨#HK, #HL, ⟨%W, HO⟩, HC, HA⟩ Hk
  iapply (Rounds.wp_wait_rest_token 𝒱₀ ER (sch m) (c : Thread nD τ) none (κ := K (c, k)) hw (Set.mem_univ _) ()
    (O := owedOf l) (W := W) (R := 0) (m := 0) (T := ∅) (by rw [Nat.zero_add]; exact (sch_expect m c k).symm)) $$ [HO HC HA]
  · isplitr; · iapply (inv_at m K (c, k)); iexact HK
    isplitl [HC]; · iexact HC
    isplitl [HO]; · iexact HO
    isplitr
    · iapply (mayWait c (csem k) l (by rw [dec_csem]; exact hl)); iexact HL
    iexact HA
  iintro ⟨HO, HA, -, HP⟩
  imod (Rounds.cell_close ER (sch m) (g := kcell (c, k)) (Set.mem_univ (K (c, k))) (fun h => h) (R := 0 + 1) (sch_later m (kcell (c, k)))) $$ [HA] with HZ
  · isplitr; · iapply (inv_at m K (c, k)); iexact HK
    iexact HA
  iapply Hk
  isplitl [HO]; · iexists _; iexact HO
  isplitl [HZ]; · iexact HZ
  iapply (Entails.of_eq (sch_rest m c k)); iexact HP

/-- A wait for a transfer or a copy, named by a buffer of its shape; -/
theorem wp_awaitDma (c : Dev nD) (k : Fin 21) (l : List (Dev nD × Fin 21)) {s : DmaSem sig} (hs : SemLoc.dma s = csem k) {sp sp' : Space} {S S' : Shape}
    {src : Memref sig .tc sp' S' .f32} {dst : Memref sig .tc sp S .f32} {hsrc : src.view.WordExact} {hdst : dst.view.WordExact}
    (hN : tileCredit S .f32 = whole k) (hl : ∀ p ∈ l, lvl k < lvl p.2) {α : Type} {Q : α → sProp 𝕄}
    {f : PUnit → Prog (TpuEff nD τ sig (Elt F) Λ₀ .tc) α} :
    iprop(records m K ∗ levAts L lv ∗ O c l ∗ C c k ∗ A c k)
      ⊢ iprop(((O c l ∗ Z c k ∗ payAll m c k) -∗ WP c (f ⟨⟩) Q) -∗ WP c (.op (.waitDma2 s src dst hsrc hdst) f) Q) :=
  wp_await m K c k l hs (fun P => (wpE_waitDma2_eq 𝒱₀ (c : Thread nD τ) none Set.univ P).trans
    (by rw [show dst.view.dmaCredit = tileCredit S .f32 from rfl, hN])) hl
/-- a wait on the barrier or a credit. -/
theorem wp_awaitSem (c : Dev nD) (k : Fin 21) (l : List (Dev nD × Fin 21)) {s : Sem sig} (hs : SemLoc.reg s = csem k) (n : ℕ)
    (hN : n = whole k) (hl : ∀ p ∈ l, lvl k < lvl p.2) {α : Type} {Q : α → sProp 𝕄}
    {f : PUnit → Prog (TpuEff nD τ sig (Elt F) Λ₀ .tc) α} :
    iprop(records m K ∗ levAts L lv ∗ O c l ∗ C c k ∗ A c k)
      ⊢ iprop(((O c l ∗ Z c k ∗ payAll m c k) -∗ WP c (f ⟨⟩) Q) -∗ WP c (.op (.semWait s (n : ℤ)) f) Q) :=
  wp_await m K c k l hs (fun P => (wpE_semWait_eq 𝒱₀ (c : Thread nD τ) none Set.univ (k := n) P).trans (by rw [hN])) hl

/-- A transfer to a neighbour whose source comes back with the send. -/
theorem wp_xfer (c n : Dev nD) (ks kr : Fin 21) (l : List (Dev nD × Fin 21)) {n' : Dev nD} (hn : n' = n) {sp sp' : Space} {S : Shape}
    {src : Memref sig .tc sp S .f32} {dst : Memref sig .tc sp' S .f32} {sS s : DmaSem sig} (hsS : SemLoc.dma sS = csem ks) (hs : SemLoc.dma s = csem kr)
    {hsc : dst.view.ref.isScScratch = false} {hsrc : src.view.WordExact} {hdst : dst.view.WordExact}
    {hsem : DmaTarget.Typed sp (.dma s) (.remote (n' : Thread nD τ) dst (.dma sS) hsc)}
    (hks : ks ≠ 0) (hkr : kr ≠ 0) (hN : tileCredit S .f32 = amt kr) (hks' : amt ks = amt kr) (hex : whole ks = amt kr)
    {Ps Pd : sProp 𝕄} (fs : Buf (Elt F) (src.view.loc (c : Thread nD τ))) (fd : Buf (Elt F) (dst.view.loc (n : Thread nD τ)))
    (hPs : Ps ⊢ (src.view.loc (c : Thread nD τ) ↦[src.view.set]{fullShare} fs))
    (hPd : Pd ⊢ (dst.view.loc (n : Thread nD τ) ↦[dst.view.set]{fullShare} fd))
    (hp₁ : (src.view.loc (c : Thread nD τ) ↦[src.view.set]{fullShare} fs) ⊢ pay m c ks false)
    (hp₂ : (dst.view.loc (n : Thread nD τ) ↦[dst.view.set]{fullShare} (dst.view.write (Elt F) fd (src.view.read (Elt F) fs) Finset.univ)) ⊢ pay m n kr false)
    {α : Type} {Q : α → sProp 𝕄}
    {f : PUnit → Prog (TpuEff nD τ sig (Elt F) Λ₀ .tc) α} :
    iprop(records m K ∗ O c ((n, kr) :: l) ∗ T (c, ks) false ∗ T (n, kr) false ∗ Ps ∗ Pd)
      ⊢ iprop(((O c l ∗ C c ks) -∗ WP c (f ⟨⟩) Q)
          -∗ WP c (.op (.enqueueDma src (.remote (n' : Thread nD τ) dst (.dma sS) hsc) (.dma s) hsrc hdst hsem) f) Q) := by
  subst hn
  unfold O
  iintro ⟨#HK, ⟨%W, HO⟩, HTs, HTr, HPs, HPd⟩ Hk
  have hc₁ : ((c : Thread nD τ), SemLoc.dma sS) = kcell (c, ks) := by rw [hsS]
  have hc₂ : ((n' : Thread nD τ), SemLoc.dma s) = kcell (n', kr) := by rw [hs]
  have hd₁ : false ∈ dutyOf ks := by unfold dutyOf; rw [if_neg hks]; exact Finset.mem_singleton_self _
  have hd₂ : false ∈ dutyOf kr := by unfold dutyOf; rw [if_neg hkr]; exact Finset.mem_singleton_self _
  iapply (Rounds.wp_send_pointsTo 𝒱₀ ER (sch m) (c : Thread nD τ) none (c' := (n' : Thread nD τ)) (src := src) (dst := dst) (sS := .dma sS) (sem := .dma s)
    (κ₁ := K (c, ks)) (κ₂ := K (n', kr)) (r₁ := 0) (r₂ := 0) (d₁ := false) (d₂ := false) (fs := fs) (fd := fd)
    (by rw [hc₁, sch_duties]; exact hd₁) (by rw [hc₂, sch_duties]; exact hd₂) () () (amt kr)
    ((show dst.view.amount (.dma s) = tileCredit S .f32 from rfl).trans hN)
    (by rw [hc₁, sch_amount]; exact hks') (by rw [hc₂, sch_amount])
    (O₀ := owedOf ((n', kr) :: l)) (owedOf l) (by rw [hc₂]; rfl) (W := W)
    (by rw [hc₁, sch_payload]; exact hp₁) (by rw [hc₂, sch_payload]; exact hp₂)) $$ [HO HTs HTr HPs HPd]
  · rw [hc₁, hc₂]
    isplitr; · iapply (inv_at m K (c, ks)); iexact HK
    isplitr; · iapply (inv_at m K (n', kr)); iexact HK
    isplitl [HPs]; · iapply hPs; iexact HPs
    isplitl [HPd]; · iapply hPd; iexact HPd
    isplitl [HO]; · iexact HO
    isplitl [HTs]; · iexact HTs
    isplitr; · iapply (reached_at m K (c, ks)); iexact HK
    isplitl [HTr]; · iexact HTr
    iapply (reached_at m K (n', kr)); iexact HK
  rw [hc₁]
  iintro ⟨HC, HO⟩
  iapply Hk
  isplitl [HO]; · iexists W; iexact HO
  iapply (Entails.of_eq (show cred (tallyAt (kcell (c, ks)) () (amt kr)) = (C c ks : sProp 𝕄) by unfold C; rw [hex])); iexact HC

/-- A transfer to a neighbour whose source goes to the neighbour with what lands. -/
theorem wp_xferLanding (c n : Dev nD) (ks kr : Fin 21) (l : List (Dev nD × Fin 21)) {n' : Dev nD} (hn : n' = n) {sp sp' : Space} {S : Shape}
    {src : Memref sig .tc sp S .f32} {dst : Memref sig .tc sp' S .f32} {sS s : DmaSem sig} (hsS : SemLoc.dma sS = csem ks) (hs : SemLoc.dma s = csem kr)
    {hsc : dst.view.ref.isScScratch = false} {hsrc : src.view.WordExact} {hdst : dst.view.WordExact}
    {hsem : DmaTarget.Typed sp (.dma s) (.remote (n' : Thread nD τ) dst (.dma sS) hsc)}
    (hks : ks ≠ 0) (hkr : kr ≠ 0) (hN : tileCredit S .f32 = amt kr) (hks' : amt ks = amt kr) (hex : whole ks = amt kr)
    {Ps Pd : sProp 𝕄} (fs : Buf (Elt F) (src.view.loc (c : Thread nD τ))) (fd : Buf (Elt F) (dst.view.loc (n : Thread nD τ)))
    (hPs : Ps ⊢ (src.view.loc (c : Thread nD τ) ↦[src.view.set]{fullShare} fs))
    (hPd : Pd ⊢ (dst.view.loc (n : Thread nD τ) ↦[dst.view.set]{fullShare} fd))
    (hp₁ : (emp : sProp 𝕄) ⊢ pay m c ks false)
    (hp₂ : iprop((dst.view.loc (n : Thread nD τ) ↦[dst.view.set]{fullShare} (dst.view.write (Elt F) fd (src.view.read (Elt F) fs) Finset.univ))
      ∗ (src.view.loc (c : Thread nD τ) ↦[src.view.set]{fullShare} fs)) ⊢ pay m n kr false)
    {α : Type} {Q : α → sProp 𝕄}
    {f : PUnit → Prog (TpuEff nD τ sig (Elt F) Λ₀ .tc) α} :
    iprop(records m K ∗ O c ((n, kr) :: l) ∗ T (c, ks) false ∗ T (n, kr) false ∗ Ps ∗ Pd)
      ⊢ iprop(((O c l ∗ C c ks) -∗ WP c (f ⟨⟩) Q)
          -∗ WP c (.op (.enqueueDma src (.remote (n' : Thread nD τ) dst (.dma sS) hsc) (.dma s) hsrc hdst hsem) f) Q) := by
  subst hn
  unfold O
  iintro ⟨#HK, ⟨%W, HO⟩, HTs, HTr, HPs, HPd⟩ Hk
  have hc₁ : ((c : Thread nD τ), SemLoc.dma sS) = kcell (c, ks) := by rw [hsS]
  have hc₂ : ((n' : Thread nD τ), SemLoc.dma s) = kcell (n', kr) := by rw [hs]
  have hd₁ : false ∈ dutyOf ks := by unfold dutyOf; rw [if_neg hks]; exact Finset.mem_singleton_self _
  have hd₂ : false ∈ dutyOf kr := by unfold dutyOf; rw [if_neg hkr]; exact Finset.mem_singleton_self _
  iapply (Rounds.wp_send_landing_pointsTo 𝒱₀ ER (sch m) (c : Thread nD τ) none (c' := (n' : Thread nD τ)) (src := src) (dst := dst) (sS := .dma sS) (sem := .dma s)
    (κ₁ := K (c, ks)) (κ₂ := K (n', kr)) (r₁ := 0) (r₂ := 0) (d₁ := false) (d₂ := false) (fs := fs) (fd := fd) (q := fullShare)
    (by rw [hc₁, sch_duties]; exact hd₁) (by rw [hc₂, sch_duties]; exact hd₂) () () (amt kr)
    ((show dst.view.amount (.dma s) = tileCredit S .f32 from rfl).trans hN)
    (by rw [hc₁, sch_amount]; exact hks') (by rw [hc₂, sch_amount])
    (O₀ := owedOf ((n', kr) :: l)) (owedOf l) (by rw [hc₂]; rfl) (W := W)
    (by rw [hc₁, sch_payload]; exact hp₁) (by rw [hc₂, sch_payload]; exact hp₂)) $$ [HO HTs HTr HPs HPd]
  · rw [hc₁, hc₂]
    isplitr; · iapply (inv_at m K (c, ks)); iexact HK
    isplitr; · iapply (inv_at m K (n', kr)); iexact HK
    isplitl [HPs]; · iapply hPs; iexact HPs
    isplitl [HPd]; · iapply hPd; iexact HPd
    isplitl [HO]; · iexact HO
    isplitl [HTs]; · iexact HTs
    isplitr; · iapply (reached_at m K (c, ks)); iexact HK
    isplitl [HTr]; · iexact HTr
    iapply (reached_at m K (n', kr)); iexact HK
  rw [hc₁]
  iintro ⟨HC, HO⟩
  iapply Hk
  isplitl [HO]; · iexists W; iexact HO
  iapply (Entails.of_eq (show cred (tallyAt (kcell (c, ks)) () (amt kr)) = (C c ks : sProp 𝕄) by unfold C; rw [hex])); iexact HC

/-- A copy within the device. -/
theorem wp_copyHere (c : Dev nD) (k : Fin 21) {sp sp' : Space} {S : Shape}
    {src : Memref sig .tc sp S .f32} {dst : Memref sig .tc sp' S .f32} {s : DmaSem sig} (hs : SemLoc.dma s = csem k)
    {hsrc : src.view.WordExact} {hdst : dst.view.WordExact} {hsem : DmaTarget.Typed (nD := nD) (τ := τ) (p := .tc) sp (.dma s) (.here dst)}
    (hk : k ≠ 0) (hN : tileCredit S .f32 = amt k)
    {Ps Pd : sProp 𝕄} (fs : Buf (Elt F) (src.view.loc (c : Thread nD τ))) (fd : Buf (Elt F) (dst.view.loc (c : Thread nD τ)))
    (hPs : Ps ⊢ (src.view.loc (c : Thread nD τ) ↦[src.view.set]{fullShare} fs))
    (hPd : Pd ⊢ (dst.view.loc (c : Thread nD τ) ↦[dst.view.set]{fullShare} fd))
    (hp : iprop((dst.view.loc (c : Thread nD τ) ↦[dst.view.set]{fullShare} (dst.view.write (Elt F) fd (src.view.read (Elt F) fs) Finset.univ))
      ∗ (src.view.loc (c : Thread nD τ) ↦[src.view.set]{fullShare} fs)) ⊢ pay m c k false)
    {α : Type} {Q : α → sProp 𝕄}
    {f : PUnit → Prog (TpuEff nD τ sig (Elt F) Λ₀ .tc) α} :
    iprop(records m K ∗ T (c, k) false ∗ Ps ∗ Pd)
      ⊢ iprop((C c k -∗ WP c (f ⟨⟩) Q) -∗ WP c (.op (.enqueueDma src (.here dst) (.dma s) hsrc hdst hsem) f) Q) := by
  iintro ⟨#HK, HT, HPs, HPd⟩ Hk
  have hc : ((c : Thread nD τ), SemLoc.dma s) = kcell (c, k) := by rw [hs]
  have hd : false ∈ dutyOf k := by unfold dutyOf; rw [if_neg hk]; exact Finset.mem_singleton_self _
  have hex : whole k = amt k := if_neg hk
  iapply (Rounds.wp_copy_pointsTo 𝒱₀ ER (sch m) (c : Thread nD τ) none (src := src) (dst := dst) (sem := .dma s)
    (κ := K (c, k)) (r := 0) (d := false) (fs := fs) (fd := fd) (q := fullShare)
    (by rw [hc, sch_duties]; exact hd) () (amt k)
    ((show dst.view.amount (.dma s) = tileCredit S .f32 from rfl).trans hN)
    (by rw [hc, sch_amount]) (by rw [hc, sch_payload]; exact hp)) $$ [HT HPs HPd]
  · rw [hc]
    isplitr; · iapply (inv_at m K (c, k)); iexact HK
    isplitl [HPs]; · iapply hPs; iexact HPs
    isplitl [HPd]; · iapply hPd; iexact HPd
    isplitl [HT]; · iexact HT
    iapply (reached_at m K (c, k)); iexact HK
  rw [hc]
  iintro HC
  iapply Hk
  iapply (Entails.of_eq (show cred (tallyAt (kcell (c, k)) () (amt k)) = (C c k : sProp 𝕄) by unfold C; rw [hex])); iexact HC

end Rules

end Cert.AllReduce

end
-- ==== Proof.Views.lean ====
/-
# The kernel's views of its buffers and its semaphores, and the loads and the stores

Each memref the kernel addresses is a buffer whole or a rectangle of one. This module says what the elements under each
are, what is read and written through it, and which cell each of the kernel's semaphore expressions names.
-/
module

public import proofs.«01_k».proof.Proof.Protocol

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.RefSig (tileCredit)

variable {F : FTy → Type} [FloatOps F]

local notation "𝕄" => MT nD τ sig Unit (Elt F) ℕ UU ℕ

/-! ## The semaphores -/

/-- The send semaphore of transfer `i`; the receive semaphore; the semaphore of copy `i`; credit `i`. -/
abbrev sendS (i : ℕ) (h : ∀ a : Fin 1, (![i] : Fin 1 → ℕ) a + S1.size a ≤ S8.size a) : DmaSem sig :=
  ((cc0_scratch4.slice (Rect.unit (s := S8) ![i] S1.size h)).squeeze S_ squeezes_S1_S_).sem
abbrev recvS (i : ℕ) (h : ∀ a : Fin 1, (![i] : Fin 1 → ℕ) a + S1.size a ≤ S8.size a) : DmaSem sig :=
  ((cc0_scratch5.slice (Rect.unit (s := S8) ![i] S1.size h)).squeeze S_ squeezes_S1_S_).sem
abbrev copyS (i : ℕ) (h : ∀ a : Fin 1, (![i] : Fin 1 → ℕ) a + S1.size a ≤ S2.size a) : DmaSem sig :=
  ((cc0_scratch6.slice (Rect.unit (s := S2) ![i] S1.size h)).squeeze S_ squeezes_S1_S_).sem
abbrev credS (i : ℕ) (h : ∀ a : Fin 1, (![i] : Fin 1 → ℕ) a + S1.size a ≤ S2.size a) : Sem sig :=
  ((cc0_scratch7.slice (Rect.unit (s := S2) ![i] S1.size h)).squeeze S_ squeezes_S1_S_).sem

theorem bar_eq : SemLoc.reg barS = csem 0 := rfl
theorem send0_eq : SemLoc.dma (sendS 0 inb_S8_S1_0) = csem 3 := by decide
theorem recv0_eq : SemLoc.dma (recvS 0 inb_S8_S1_0) = csem 11 := by decide
theorem send1_eq : SemLoc.dma (sendS 1 inb_S8_S1_1) = csem 4 := by decide
theorem recv1_eq : SemLoc.dma (recvS 1 inb_S8_S1_1) = csem 12 := by decide
theorem send2_eq : SemLoc.dma (sendS 2 inb_S8_S1_2) = csem 5 := by decide
theorem recv2_eq : SemLoc.dma (recvS 2 inb_S8_S1_2) = csem 13 := by decide
theorem send3_eq : SemLoc.dma (sendS 3 inb_S8_S1_3) = csem 6 := by decide
theorem recv3_eq : SemLoc.dma (recvS 3 inb_S8_S1_3) = csem 14 := by decide
theorem send4_eq : SemLoc.dma (sendS 4 inb_S8_S1_4) = csem 7 := by decide
theorem recv4_eq : SemLoc.dma (recvS 4 inb_S8_S1_4) = csem 15 := by decide
theorem send5_eq : SemLoc.dma (sendS 5 inb_S8_S1_5) = csem 8 := by decide
theorem recv5_eq : SemLoc.dma (recvS 5 inb_S8_S1_5) = csem 16 := by decide
theorem send6_eq : SemLoc.dma (sendS 6 inb_S8_S1_6) = csem 9 := by decide
theorem recv6_eq : SemLoc.dma (recvS 6 inb_S8_S1_6) = csem 17 := by decide
theorem send7_eq : SemLoc.dma (sendS 7 inb_S8_S1_7) = csem 10 := by decide
theorem recv7_eq : SemLoc.dma (recvS 7 inb_S8_S1_7) = csem 18 := by decide
theorem copy0_eq : SemLoc.dma (copyS 0 inb_S2_S1_0) = csem 19 := by decide
theorem cred0_eq : SemLoc.reg (credS 0 inb_S2_S1_0) = csem 1 := by decide
theorem copy1_eq : SemLoc.dma (copyS 1 inb_S2_S1_1) = csem 20 := by decide
theorem cred1_eq : SemLoc.reg (credS 1 inb_S2_S1_1) = csem 2 := by decide

/-- The sizes of the three kinds of transfer. -/
theorem sizeL : tileCredit S2048x1024 .f32 = 262144 := by decide
theorem sizeR : tileCredit S4096x512 .f32 = 262144 := by decide
theorem sizeQ : tileCredit S2048x512 .f32 = 131072 := by decide

/-! ## The elements under a view -/

section Elements

variable (c : Dev nD)

theorem x_pts (r : Rect S4096x2048) (h : ∀ a, r.stride a = 1) (f : Blk F) :
    ((xM.slice r h).view.loc (c : Thread nD τ) ↦[(xM.slice r h).view.set]{fullShare} f : sProp 𝕄) = xP c r.set f := by
  rw [show (xM.slice r h).view.set = r.set from View.set_slice_whole main_arg0 r]
theorem o_pts (r : Rect S4096x2048) (h : ∀ a, r.stride a = 1) (f : Blk F) :
    ((oM.slice r h).view.loc (c : Thread nD τ) ↦[(oM.slice r h).view.set]{fullShare} f : sProp 𝕄) = oP c r.set f := by
  rw [show (oM.slice r h).view.set = r.set from View.set_slice_whole cc0_stg0_0 r]
theorem xa_pts (f : Vec F S2048x1024 .f32) :
    (xaM.view.loc (c : Thread nD τ) ↦[xaM.view.set]{fullShare} f : sProp 𝕄) = xaP c f := by
  rw [show xaM.view.set = Finset.univ from View.set_whole cc0_scratch0]
theorem xb_pts (f : Vec F S4096x512 .f32) :
    (xbM.view.loc (c : Thread nD τ) ↦[xbM.view.set]{fullShare} f : sProp 𝕄) = xbP c f := by
  rw [show xbM.view.set = Finset.univ from View.set_whole cc0_scratch1]
theorem ra_pts (f : Vec F S2048x512 .f32) :
    (raM.view.loc (c : Thread nD τ) ↦[raM.view.set]{fullShare} f : sProp 𝕄) = raP c f := by
  rw [show raM.view.set = Finset.univ from View.set_whole cc0_scratch2]
theorem rb_pts (f : Vec F S2048x512 .f32) :
    (rbM.view.loc (c : Thread nD τ) ↦[rbM.view.set]{fullShare} f : sProp 𝕄) = rbP c f := by
  rw [show rbM.view.set = Finset.univ from View.set_whole cc0_scratch3]

/-! ## What is read and written through it -/

theorem x_read (r : Rect S4096x2048) (h : ∀ a, r.stride a = 1) (f : Blk F) : (xM.slice r h).view.read (Elt F) f = under r f := rfl
theorem o_read (r : Rect S4096x2048) (h : ∀ a, r.stride a = 1) (f : Blk F) : (oM.slice r h).view.read (Elt F) f = under r f := rfl

theorem xa_write (f w : Vec F S2048x1024 .f32) : xaM.view.write (Elt F) f w Finset.univ = w := View.write_whole_univ cc0_scratch0 f w
theorem xb_write (f w : Vec F S4096x512 .f32) : xbM.view.write (Elt F) f w Finset.univ = w := View.write_whole_univ cc0_scratch1 f w
theorem ra_write (f w : Vec F S2048x512 .f32) : raM.view.write (Elt F) f w Finset.univ = w := View.write_whole_univ cc0_scratch2 f w
theorem rb_write (f w : Vec F S2048x512 .f32) : rbM.view.write (Elt F) f w Finset.univ = w := View.write_whole_univ cc0_scratch3 f w

/-- What a rectangle of the result holds once written is any contents that hold under it what was written; -/
theorem o_written (r : Rect S4096x2048) (h : ∀ a, r.stride a = 1) (f g : Blk F) (w : Vec F r.shape .f32) (e : under r g = w) :
    ((oM.slice r h).view.loc (c : Thread nD τ) ↦[(oM.slice r h).view.set]{fullShare} (oM.slice r h).view.write (Elt F) f w Finset.univ : sProp 𝕄) = oP c r.set g :=
  (written_eq (c : Thread nD τ) (oM.slice r h).view f g w e).trans (o_pts c r h g)

/-- and there are such contents. -/
theorem o_written_read (r : Rect S4096x2048) (h : ∀ a, r.stride a = 1) (f : Blk F) (w : Vec F r.shape .f32) :
    under r ((oM.slice r h).view.write (Elt F) f w Finset.univ : Blk F) = w :=
  View.read_write_univ (v := (oM.slice r h).view) f w

/-- Rectangles of one size at equal offsets hold the same. -/
theorem under_congr {off off' size : Fin 2 → ℕ} {inb inb'} (e : off = off') (f : Blk F) :
    under (Rect.unit (s := S4096x2048) off size inb) f = under (Rect.unit (s := S4096x2048) off' size inb') f := by subst e; rfl

/-- The sum of two blocks holds under a rectangle the sum of what they hold. -/
theorem under_addf (r : Rect S4096x2048) (f g : Blk F) : under r (addf f g) = addf (under r f) (under r g) := rfl

/-- Contents that agree on a region may stand for each other. -/
theorem oP_congr {R : Finset I2} {f g : Blk F} (h : ∀ i ∈ R, f i = g i) : (oP c R f : sProp 𝕄) = oP c R g := pointsTo_congr h

end Elements

/-! ## Loads and stores -/

section Access

variable (c : Dev nD)

/-- A load of a rectangle of the result. -/
theorem ld_out (r : Rect S4096x2048) {R : Finset I2} (f : Blk F) (hR : r.set ⊆ R) {hl : oM.view.LoadsAt r.toLoadRect} {α : Type} {Q : α → sProp 𝕄}
    {k : Vec F r.shape .f32 → Prog (TpuEff nD τ sig (Elt F) Λ₀ .tc) α} :
    oP c R f ⊢ iprop((oP c R f -∗ WP c (k (under r f)) Q) -∗ WP c (.op (.load oM r.toLoadRect hl) k) Q) :=
  wp_load_rect 𝒱₀ (c : Thread nD τ) none Set.univ (m := oM) (r := r) (S := R) (f := f)
    (by rw [show (oM.access r).set = r.set from View.set_slice_whole cc0_stg0_0 r]; exact hR)

/-- A store to a rectangle of the result, of what the contents `g` hold under it. -/
theorem st_out (r : Rect S4096x2048) {R : Finset I2} (hR : r.set = R) (f g : Blk F) (w : Vec F r.shape .f32) (e : under r g = w)
    {hx : (oM.access r).Stores Finset.univ} {hm : (Finset.univ : Finset r.shape.Idx) = Finset.univ ∨ ∀ a, r.stride a = 1} {α : Type} {Q : α → sProp 𝕄}
    {k : PUnit → Prog (TpuEff nD τ sig (Elt F) Λ₀ .tc) α} :
    oP c R f ⊢ iprop((oP c R g -∗ WP c (k ⟨⟩) Q) -∗ WP c (.op (.store oM r w Finset.univ hx hm) k) Q) := by
  subst hR
  have hset : (oM.access r).set = r.set := View.set_slice_whole cc0_stg0_0 r
  have hw : ((oM.access r).loc (c : Thread nD τ) ↦[r.set]{fullShare} (oM.access r).write (Elt F) f w Finset.univ : sProp 𝕄) = oP c r.set g := by
    rw [← hset]; exact (written_eq (c : Thread nD τ) (oM.access r) f g w e)
  have h := wp_store (Γ := .empty) (defs := defs₀ (F := F)) 𝒱₀ (c : Thread nD τ) none Set.univ (Q := Q) (m := oM) (r := r) (w := w) (Mk := Finset.univ) (hx := hx) (hm := hm) (k := k)
    (S := r.set) (f := f) (by rw [View.setOn_univ, hset])
  rw [hw] at h
  exact h

theorem no_offset : (![0, 0] : Fin 2 → Nat) = fun _ => 0 := funext fun a => by fin_cases a <;> rfl

/-- A load of `xa` whole. -/
theorem ld_xa (f : Vec F S2048x1024 .f32) {inb} {hl : xaM.view.LoadsAt (Rect.unit (s := S2048x1024) ![0, 0] S2048x1024.size inb).toLoadRect} {α : Type} {Q : α → sProp 𝕄}
    {k : Vec F S2048x1024 .f32 → Prog (TpuEff nD τ sig (Elt F) Λ₀ .tc) α} :
    xaP c f ⊢ iprop((xaP c f -∗ WP c (k f) Q) -∗ WP c (.op (.load xaM (Rect.unit (s := S2048x1024) ![0, 0] S2048x1024.size inb).toLoadRect hl) k) Q) := by
  have h := wp_load (Γ := .empty) (defs := defs₀ (F := F)) 𝒱₀ (c : Thread nD τ) none Set.univ (Q := Q) (m := xaM) (hl := hl) (k := k) (q := fullShare) (f := f) (S := Finset.univ) (Finset.subset_univ _)
  have e : xaM.view.readAt (Elt F) (Rect.unit (s := S2048x1024) ![0, 0] S2048x1024.size inb).toLoadRect f = f := Memref.readAt_unit_zero (Elt F) cc0_scratch0 no_offset inb f
  rw [e] at h
  exact h

/-- A load of `xb` whole. -/
theorem ld_xb (f : Vec F S4096x512 .f32) {inb} {hl : xbM.view.LoadsAt (Rect.unit (s := S4096x512) ![0, 0] S4096x512.size inb).toLoadRect} {α : Type} {Q : α → sProp 𝕄}
    {k : Vec F S4096x512 .f32 → Prog (TpuEff nD τ sig (Elt F) Λ₀ .tc) α} :
    xbP c f ⊢ iprop((xbP c f -∗ WP c (k f) Q) -∗ WP c (.op (.load xbM (Rect.unit (s := S4096x512) ![0, 0] S4096x512.size inb).toLoadRect hl) k) Q) := by
  have h := wp_load (Γ := .empty) (defs := defs₀ (F := F)) 𝒱₀ (c : Thread nD τ) none Set.univ (Q := Q) (m := xbM) (hl := hl) (k := k) (q := fullShare) (f := f) (S := Finset.univ) (Finset.subset_univ _)
  have e : xbM.view.readAt (Elt F) (Rect.unit (s := S4096x512) ![0, 0] S4096x512.size inb).toLoadRect f = f := Memref.readAt_unit_zero (Elt F) cc0_scratch1 no_offset inb f
  rw [e] at h
  exact h

/-- A load of `ra` whole. -/
theorem ld_ra (f : Vec F S2048x512 .f32) {inb} {hl : raM.view.LoadsAt (Rect.unit (s := S2048x512) ![0, 0] S2048x512.size inb).toLoadRect} {α : Type} {Q : α → sProp 𝕄}
    {k : Vec F S2048x512 .f32 → Prog (TpuEff nD τ sig (Elt F) Λ₀ .tc) α} :
    raP c f ⊢ iprop((raP c f -∗ WP c (k f) Q) -∗ WP c (.op (.load raM (Rect.unit (s := S2048x512) ![0, 0] S2048x512.size inb).toLoadRect hl) k) Q) := by
  have h := wp_load (Γ := .empty) (defs := defs₀ (F := F)) 𝒱₀ (c : Thread nD τ) none Set.univ (Q := Q) (m := raM) (hl := hl) (k := k) (q := fullShare) (f := f) (S := Finset.univ) (Finset.subset_univ _)
  have e : raM.view.readAt (Elt F) (Rect.unit (s := S2048x512) ![0, 0] S2048x512.size inb).toLoadRect f = f := Memref.readAt_unit_zero (Elt F) cc0_scratch2 no_offset inb f
  rw [e] at h
  exact h

/-- A load of `rb` whole. -/
theorem ld_rb (f : Vec F S2048x512 .f32) {inb} {hl : rbM.view.LoadsAt (Rect.unit (s := S2048x512) ![0, 0] S2048x512.size inb).toLoadRect} {α : Type} {Q : α → sProp 𝕄}
    {k : Vec F S2048x512 .f32 → Prog (TpuEff nD τ sig (Elt F) Λ₀ .tc) α} :
    rbP c f ⊢ iprop((rbP c f -∗ WP c (k f) Q) -∗ WP c (.op (.load rbM (Rect.unit (s := S2048x512) ![0, 0] S2048x512.size inb).toLoadRect hl) k) Q) := by
  have h := wp_load (Γ := .empty) (defs := defs₀ (F := F)) 𝒱₀ (c : Thread nD τ) none Set.univ (Q := Q) (m := rbM) (hl := hl) (k := k) (q := fullShare) (f := f) (S := Finset.univ) (Finset.subset_univ _)
  have e : rbM.view.readAt (Elt F) (Rect.unit (s := S2048x512) ![0, 0] S2048x512.size inb).toLoadRect f = f := Memref.readAt_unit_zero (Elt F) cc0_scratch3 no_offset inb f
  rw [e] at h
  exact h

end Access

end Cert.AllReduce

end
-- ==== Proof.Moves.lean ====
/-
# The kernel's copies and transfers

Two copies within a device and eight transfers to a neighbour. Each theorem says, for one of them, what it takes and what
cell's credit it leaves, so that the body is a sequence of these.
-/
module

public import proofs.«01_k».proof.Proof.Views

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.RefSig (tileCredit)

variable {F : FTy → Type} [FloatOps F]

local notation "𝕄" => MT nD τ sig Unit (Elt F) ℕ UU ℕ

variable (m : (ℓ : Loc nD τ sig) → Buf (Elt F) ℓ) (K : Dev nD × Fin 21 → ℕ)

/-! ## The two copies -/

/-- Copy 0: the part of the source over `LM`, to `xa`. -/
theorem wp_copy0 (c : Dev nD) {h : ∀ a, (rL (k0_off1 c) (k0_off1_inb c)).stride a = 1} {α : Type} {Q : α → sProp 𝕄}
    {hsrc : (xM.slice (rL (k0_off1 c) (k0_off1_inb c)) h).view.WordExact} {hdst : xaM.view.WordExact}
    {hsem : DmaTarget.Typed (nD := nD) (τ := τ) (p := .tc) .hbm (.dma (copyS 0 inb_S2_S1_0)) (.here xaM)}
    {f : PUnit → Prog (TpuEff nD τ sig (Elt F) Λ₀ .tc) α} :
    iprop(records m K ∗ T (c, 19) false ∗ xP c (LM c) (X m c) ∗ ∃ f, xaP c f)
      ⊢ iprop((C c 19 -∗ WP c (f ⟨⟩) Q)
        -∗ WP c (.op (.enqueueDma (xM.slice (rL (k0_off1 c) (k0_off1_inb c)) h) (.here xaM) (.dma (copyS 0 inb_S2_S1_0)) hsrc hdst hsem) f) Q) := by
  iintro ⟨#HK, HT, HX, %fd, HD⟩
  iapply (wp_copyHere m K c 19 copy0_eq (by decide) sizeL (Ps := xP c (LM c) (X m c)) (Pd := xaP c fd) (X m c) fd
    (Entails.of_eq (by rw [x_pts, set1])) (Entails.of_eq (by rw [xa_pts]))
    (by
      rw [x_pts, set1, xa_write, x_read]
      show _ ⊢ iprop(xP c (LM c) (X m c) ∗ xaP c (under (rL (k0_off1 c) (k0_off1_inb c)) (X m c)))
      iintro ⟨HD, HX⟩
      isplitl [HX]; · iexact HX
      iapply (Entails.of_eq (xa_pts c _)); iexact HD)) $$ [HT HX HD]
  isplitr; · iexact HK
  isplitl [HT]; · iexact HT
  isplitl [HX]; · iexact HX
  iexact HD

/-- Copy 1: the part of the source over `RM`, to `xb`. -/
theorem wp_copy1 (c : Dev nD) {h : ∀ a, (rR (k0_off2 c) (k0_off2_inb c)).stride a = 1} {α : Type} {Q : α → sProp 𝕄}
    {hsrc : (xM.slice (rR (k0_off2 c) (k0_off2_inb c)) h).view.WordExact} {hdst : xbM.view.WordExact}
    {hsem : DmaTarget.Typed (nD := nD) (τ := τ) (p := .tc) .hbm (.dma (copyS 1 inb_S2_S1_1)) (.here xbM)}
    {f : PUnit → Prog (TpuEff nD τ sig (Elt F) Λ₀ .tc) α} :
    iprop(records m K ∗ T (c, 20) false ∗ xP c (RM c) (X m c) ∗ ∃ f, xbP c f)
      ⊢ iprop((C c 20 -∗ WP c (f ⟨⟩) Q)
        -∗ WP c (.op (.enqueueDma (xM.slice (rR (k0_off2 c) (k0_off2_inb c)) h) (.here xbM) (.dma (copyS 1 inb_S2_S1_1)) hsrc hdst hsem) f) Q) := by
  iintro ⟨#HK, HT, HX, %fd, HD⟩
  iapply (wp_copyHere m K c 20 copy1_eq (by decide) sizeR (Ps := xP c (RM c) (X m c)) (Pd := xbP c fd) (X m c) fd
    (Entails.of_eq (by rw [x_pts, set2])) (Entails.of_eq (by rw [xb_pts]))
    (by
      rw [x_pts, set2, xb_write, x_read]
      show _ ⊢ iprop(xP c (RM c) (X m c) ∗ xbP c (under (rR (k0_off2 c) (k0_off2_inb c)) (X m c)))
      iintro ⟨HD, HX⟩
      isplitl [HX]; · iexact HX
      iapply (Entails.of_eq (xb_pts c _)); iexact HD)) $$ [HT HX HD]
  isplitr; · iexact HK
  isplitl [HT]; · iexact HT
  isplitl [HX]; · iexact HX
  iexact HD

/-! ## The first step -/

/-- Transfer 0: the part of the source over `LO`, to the neighbour's result. -/
theorem wp_send0 (c : Dev nD) (l : List (Dev nD × Fin 21)) {h : ∀ a, (rL (k0_off3 c) (k0_off3_inb c)).stride a = 1}
    {h' : ∀ a, (rL (k0_off1 c) (k0_off1_inb c)).stride a = 1} {α : Type} {Q : α → sProp 𝕄}
    {hsc : (oM.slice (rL (k0_off1 c) (k0_off1_inb c)) h').view.ref.isScScratch = false}
    {hsrc : (xM.slice (rL (k0_off3 c) (k0_off3_inb c)) h).view.WordExact} {hdst : (oM.slice (rL (k0_off1 c) (k0_off1_inb c)) h').view.WordExact}
    {hsem : DmaTarget.Typed .hbm (.dma (recvS 0 inb_S8_S1_0))
      (.remote ((⟨k0_dev3 c, k0_dev3_lt c⟩ : Dev nD) : Thread nD τ) (oM.slice (rL (k0_off1 c) (k0_off1_inb c)) h') (.dma (sendS 0 inb_S8_S1_0)) hsc)}
    {f : PUnit → Prog (TpuEff nD τ sig (Elt F) Λ₀ .tc) α} :
    iprop(records m K ∗ O c ((px c, 11) :: l) ∗ T (c, 3) false ∗ T (px c, 11) false ∗ xP c (LO c) (X m c) ∗ ∃ f, oP (px c) (LM c) f)
      ⊢ iprop(((O c l ∗ C c 3) -∗ WP c (f ⟨⟩) Q)
        -∗ WP c (.op (.enqueueDma (xM.slice (rL (k0_off3 c) (k0_off3_inb c)) h)
          (.remote ((⟨k0_dev3 c, k0_dev3_lt c⟩ : Dev nD) : Thread nD τ) (oM.slice (rL (k0_off1 c) (k0_off1_inb c)) h') (.dma (sendS 0 inb_S8_S1_0)) hsc)
          (.dma (recvS 0 inb_S8_S1_0)) hsrc hdst hsem) f) Q) := by
  iintro ⟨#HK, HO, HT, HT', HX, %fd, HD⟩
  iapply (wp_xfer m K c (px c) 3 11 l (dev3_eq c) send0_eq recv0_eq (by decide) (by decide) sizeL rfl rfl
    (Ps := xP c (LO c) (X m c)) (Pd := oP (px c) (LM c) fd) (X m c) fd
    (Entails.of_eq (by rw [x_pts, set3])) (Entails.of_eq (by rw [o_pts, set1]))
    (by rw [x_pts, set3]; exact Entails.rfl)
    (by
      rw [o_pts, set1, x_read]
      show _ ⊢ iprop(∃ f : Blk F, ⌜under (rL (k0_off5 (px c)) (k0_off5_inb (px c))) f = under (rL (k0_off1 (px c)) (k0_off1_inb (px c))) (X m (px (px c)))⌝ ∗ oP (px c) (LO (px c)) f)
      rw [LO_px, px_px]
      iintro HD
      iexists _
      isplitr
      · ipureintro
        rw [under_congr (off5_px c) (inb' := k0_off1_inb c), under_congr (show k0_off1 (px c) = k0_off3 c by rw [← off3_px, px_px]) (inb' := k0_off3_inb c)]
        exact o_written_read _ h' fd _
      · iexact HD)) $$ [HO HT HT' HX HD]
  isplitr; · iexact HK
  isplitl [HO]; · iexact HO
  isplitl [HT]; · iexact HT
  isplitl [HT']; · iexact HT'
  isplitl [HX]; · iexact HX
  iexact HD

/-- Transfer 1: the part of the source over `RO`, to the neighbour's result. -/
theorem wp_send1 (c : Dev nD) (l : List (Dev nD × Fin 21)) {h : ∀ a, (rR (k0_off4 c) (k0_off4_inb c)).stride a = 1}
    {h' : ∀ a, (rR (k0_off2 c) (k0_off2_inb c)).stride a = 1} {α : Type} {Q : α → sProp 𝕄}
    {hsc : (oM.slice (rR (k0_off2 c) (k0_off2_inb c)) h').view.ref.isScScratch = false}
    {hsrc : (xM.slice (rR (k0_off4 c) (k0_off4_inb c)) h).view.WordExact} {hdst : (oM.slice (rR (k0_off2 c) (k0_off2_inb c)) h').view.WordExact}
    {hsem : DmaTarget.Typed .hbm (.dma (recvS 1 inb_S8_S1_1))
      (.remote ((⟨k0_dev4 c, k0_dev4_lt c⟩ : Dev nD) : Thread nD τ) (oM.slice (rR (k0_off2 c) (k0_off2_inb c)) h') (.dma (sendS 1 inb_S8_S1_1)) hsc)}
    {f : PUnit → Prog (TpuEff nD τ sig (Elt F) Λ₀ .tc) α} :
    iprop(records m K ∗ O c ((py c, 12) :: l) ∗ T (c, 4) false ∗ T (py c, 12) false ∗ xP c (RO c) (X m c) ∗ ∃ f, oP (py c) (RM c) f)
      ⊢ iprop(((O c l ∗ C c 4) -∗ WP c (f ⟨⟩) Q)
        -∗ WP c (.op (.enqueueDma (xM.slice (rR (k0_off4 c) (k0_off4_inb c)) h)
          (.remote ((⟨k0_dev4 c, k0_dev4_lt c⟩ : Dev nD) : Thread nD τ) (oM.slice (rR (k0_off2 c) (k0_off2_inb c)) h') (.dma (sendS 1 inb_S8_S1_1)) hsc)
          (.dma (recvS 1 inb_S8_S1_1)) hsrc hdst hsem) f) Q) := by
  iintro ⟨#HK, HO, HT, HT', HX, %fd, HD⟩
  iapply (wp_xfer m K c (py c) 4 12 l (dev4_eq c) send1_eq recv1_eq (by decide) (by decide) sizeR rfl rfl
    (Ps := xP c (RO c) (X m c)) (Pd := oP (py c) (RM c) fd) (X m c) fd
    (Entails.of_eq (by rw [x_pts, set4])) (Entails.of_eq (by rw [o_pts, set2]))
    (by rw [x_pts, set4]; exact Entails.rfl)
    (by
      rw [o_pts, set2, x_read]
      show _ ⊢ iprop(∃ f : Blk F, ⌜under (rR (k0_off8 (py c)) (k0_off8_inb (py c))) f = under (rR (k0_off2 (py c)) (k0_off2_inb (py c))) (X m (py (py c)))⌝ ∗ oP (py c) (RO (py c)) f)
      rw [RO_py, py_py]
      iintro HD
      iexists _
      isplitr
      · ipureintro
        rw [under_congr (off8_py c) (inb' := k0_off2_inb c), under_congr (show k0_off2 (py c) = k0_off4 c by rw [← off4_py, py_py]) (inb' := k0_off4_inb c)]
        exact o_written_read _ h' fd _
      · iexact HD)) $$ [HO HT HT' HX HD]
  isplitr; · iexact HK
  isplitl [HO]; · iexact HO
  isplitl [HT]; · iexact HT
  isplitl [HT']; · iexact HT'
  isplitl [HX]; · iexact HX
  iexact HD

/-! ## The second step -/

/-- Transfer 2: the part of the first sum over `LMo`, to the neighbour's `ra`; the part itself goes to the neighbour too. -/
theorem wp_send2 (c : Dev nD) (l : List (Dev nD × Fin 21)) {h : ∀ a, (rQ (k0_off7 c) (k0_off7_inb c)).stride a = 1}
    {α : Type} {Q : α → sProp 𝕄} {hsc : raM.view.ref.isScScratch = false}
    {hsrc : (oM.slice (rQ (k0_off7 c) (k0_off7_inb c)) h).view.WordExact} {hdst : raM.view.WordExact}
    {hsem : DmaTarget.Typed .vmem (.dma (recvS 2 inb_S8_S1_2))
      (.remote ((⟨k0_dev6 c, k0_dev6_lt c⟩ : Dev nD) : Thread nD τ) raM (.dma (sendS 2 inb_S8_S1_2)) hsc)}
    {f : PUnit → Prog (TpuEff nD τ sig (Elt F) Λ₀ .tc) α} :
    iprop(records m K ∗ O c ((py c, 13) :: l) ∗ T (c, 5) false ∗ T (py c, 13) false ∗ oP c (LMo c) (E1 m c) ∗ ∃ f, raP (py c) f)
      ⊢ iprop(((O c l ∗ C c 5) -∗ WP c (f ⟨⟩) Q)
        -∗ WP c (.op (.enqueueDma (oM.slice (rQ (k0_off7 c) (k0_off7_inb c)) h)
          (.remote ((⟨k0_dev6 c, k0_dev6_lt c⟩ : Dev nD) : Thread nD τ) raM (.dma (sendS 2 inb_S8_S1_2)) hsc)
          (.dma (recvS 2 inb_S8_S1_2)) hsrc hdst hsem) f) Q) := by
  iintro ⟨#HK, HO, HT, HT', HX, %fd, HD⟩
  iapply (wp_xferLanding m K c (py c) 5 13 l (dev6_eq c) send2_eq recv2_eq (by decide) (by decide) sizeQ rfl rfl
    (Ps := oP c (LMo c) (E1 m c)) (Pd := raP (py c) fd) (E1 m c) fd
    (Entails.of_eq (by rw [o_pts, set7])) (Entails.of_eq (by rw [ra_pts]))
    Entails.rfl
    (by
      rw [o_pts, set7, ra_write, o_read]
      show _ ⊢ iprop(raP (py c) (under (rQ (k0_off11 (py c)) (k0_off11_inb (py c))) (E1 m (py (py c)))) ∗ ∃ f, oP (py (py c)) (LMm (py c)) f)
      rw [LMm_py, py_py, under_congr (show k0_off11 (py c) = k0_off7 c by rw [← off7_py, py_py]) (inb' := k0_off7_inb c)]
      iintro ⟨HD, HX⟩
      isplitl [HD]; · iapply (Entails.of_eq (ra_pts (py c) _)); iexact HD
      iexists _; iexact HX)) $$ [HO HT HT' HX HD]
  isplitr; · iexact HK
  isplitl [HO]; · iexact HO
  isplitl [HT]; · iexact HT
  isplitl [HT']; · iexact HT'
  isplitl [HX]; · iexact HX
  iexact HD

/-- Transfer 3: the part of the first sum over `RMo`, to the neighbour's `rb`; the part itself goes to the neighbour too. -/
theorem wp_send3 (c : Dev nD) (l : List (Dev nD × Fin 21)) {h : ∀ a, (rQ (k0_off10 c) (k0_off10_inb c)).stride a = 1}
    {α : Type} {Q : α → sProp 𝕄} {hsc : rbM.view.ref.isScScratch = false}
    {hsrc : (oM.slice (rQ (k0_off10 c) (k0_off10_inb c)) h).view.WordExact} {hdst : rbM.view.WordExact}
    {hsem : DmaTarget.Typed .vmem (.dma (recvS 3 inb_S8_S1_3))
      (.remote ((⟨k0_dev8 c, k0_dev8_lt c⟩ : Dev nD) : Thread nD τ) rbM (.dma (sendS 3 inb_S8_S1_3)) hsc)}
    {f : PUnit → Prog (TpuEff nD τ sig (Elt F) Λ₀ .tc) α} :
    iprop(records m K ∗ O c ((px c, 14) :: l) ∗ T (c, 6) false ∗ T (px c, 14) false ∗ oP c (RMo c) (D1 m c) ∗ ∃ f, rbP (px c) f)
      ⊢ iprop(((O c l ∗ C c 6) -∗ WP c (f ⟨⟩) Q)
        -∗ WP c (.op (.enqueueDma (oM.slice (rQ (k0_off10 c) (k0_off10_inb c)) h)
          (.remote ((⟨k0_dev8 c, k0_dev8_lt c⟩ : Dev nD) : Thread nD τ) rbM (.dma (sendS 3 inb_S8_S1_3)) hsc)
          (.dma (recvS 3 inb_S8_S1_3)) hsrc hdst hsem) f) Q) := by
  iintro ⟨#HK, HO, HT, HT', HX, %fd, HD⟩
  iapply (wp_xferLanding m K c (px c) 6 14 l (dev8_eq c) send3_eq recv3_eq (by decide) (by decide) sizeQ rfl rfl
    (Ps := oP c (RMo c) (D1 m c)) (Pd := rbP (px c) fd) (D1 m c) fd
    (Entails.of_eq (by rw [o_pts, set10])) (Entails.of_eq (by rw [rb_pts]))
    Entails.rfl
    (by
      rw [o_pts, set10, rb_write, o_read]
      show _ ⊢ iprop(rbP (px c) (under (rQ (k0_off13 (px c)) (k0_off13_inb (px c))) (D1 m (px (px c)))) ∗ ∃ f, oP (px (px c)) (RMm (px c)) f)
      rw [RMm_px, px_px, under_congr (show k0_off13 (px c) = k0_off10 c by rw [← off10_px, px_px]) (inb' := k0_off10_inb c)]
      iintro ⟨HD, HX⟩
      isplitl [HD]; · iapply (Entails.of_eq (rb_pts (px c) _)); iexact HD
      iexists _; iexact HX)) $$ [HO HT HT' HX HD]
  isplitr; · iexact HK
  isplitl [HO]; · iexact HO
  isplitl [HT]; · iexact HT
  isplitl [HT']; · iexact HT'
  isplitl [HX]; · iexact HX
  iexact HD

/-! ## The last two steps

Each sends a region of the finished sum to the same place of a neighbour's result. -/

/-- Transfer 4: the finished sum over `LMm`. -/
theorem wp_send4 (c : Dev nD) (l : List (Dev nD × Fin 21)) {h h' : ∀ a, (rQ (k0_off12 c) (k0_off12_inb c)).stride a = 1}
    {α : Type} {Q : α → sProp 𝕄} {hsc : (oM.slice (rQ (k0_off12 c) (k0_off12_inb c)) h').view.ref.isScScratch = false}
    {hsrc : (oM.slice (rQ (k0_off12 c) (k0_off12_inb c)) h).view.WordExact} {hdst : (oM.slice (rQ (k0_off12 c) (k0_off12_inb c)) h').view.WordExact}
    {hsem : DmaTarget.Typed .vmem (.dma (recvS 4 inb_S8_S1_4))
      (.remote ((⟨k0_dev9 c, k0_dev9_lt c⟩ : Dev nD) : Thread nD τ) (oM.slice (rQ (k0_off12 c) (k0_off12_inb c)) h') (.dma (sendS 4 inb_S8_S1_4)) hsc)}
    {f : PUnit → Prog (TpuEff nD τ sig (Elt F) Λ₀ .tc) α} :
    iprop(records m K ∗ O c ((py c, 15) :: l) ∗ T (c, 7) false ∗ T (py c, 15) false ∗ oP c (LMm c) (total m) ∗ ∃ f, oP (py c) (LMm c) f)
      ⊢ iprop(((O c l ∗ C c 7) -∗ WP c (f ⟨⟩) Q)
        -∗ WP c (.op (.enqueueDma (oM.slice (rQ (k0_off12 c) (k0_off12_inb c)) h)
          (.remote ((⟨k0_dev9 c, k0_dev9_lt c⟩ : Dev nD) : Thread nD τ) (oM.slice (rQ (k0_off12 c) (k0_off12_inb c)) h') (.dma (sendS 4 inb_S8_S1_4)) hsc)
          (.dma (recvS 4 inb_S8_S1_4)) hsrc hdst hsem) f) Q) := by
  iintro ⟨#HK, HO, HT, HT', HX, %fd, HD⟩
  iapply (wp_xfer m K c (py c) 7 15 l (dev9_eq c) send4_eq recv4_eq (by decide) (by decide) sizeQ rfl rfl
    (Ps := oP c (LMm c) (total m)) (Pd := oP (py c) (LMm c) fd) (total m) fd
    (Entails.of_eq (by rw [o_pts, set12])) (Entails.of_eq (by rw [o_pts, set12]))
    (by rw [o_pts, set12]; exact Entails.rfl)
    (by
      rw [o_written (py c) _ h' fd (total m) _ (o_read _ h _).symm, set12]
      show _ ⊢ oP (py c) (LMo (py c)) (total m)
      rw [LMo_py])) $$ [HO HT HT' HX HD]
  isplitr; · iexact HK
  isplitl [HO]; · iexact HO
  isplitl [HT]; · iexact HT
  isplitl [HT']; · iexact HT'
  isplitl [HX]; · iexact HX
  iexact HD

/-- Transfer 5: the finished sum over `RMm`. -/
theorem wp_send5 (c : Dev nD) (l : List (Dev nD × Fin 21)) {h h' : ∀ a, (rQ (k0_off14 c) (k0_off14_inb c)).stride a = 1}
    {α : Type} {Q : α → sProp 𝕄} {hsc : (oM.slice (rQ (k0_off14 c) (k0_off14_inb c)) h').view.ref.isScScratch = false}
    {hsrc : (oM.slice (rQ (k0_off14 c) (k0_off14_inb c)) h).view.WordExact} {hdst : (oM.slice (rQ (k0_off14 c) (k0_off14_inb c)) h').view.WordExact}
    {hsem : DmaTarget.Typed .vmem (.dma (recvS 5 inb_S8_S1_5))
      (.remote ((⟨k0_dev10 c, k0_dev10_lt c⟩ : Dev nD) : Thread nD τ) (oM.slice (rQ (k0_off14 c) (k0_off14_inb c)) h') (.dma (sendS 5 inb_S8_S1_5)) hsc)}
    {f : PUnit → Prog (TpuEff nD τ sig (Elt F) Λ₀ .tc) α} :
    iprop(records m K ∗ O c ((px c, 16) :: l) ∗ T (c, 8) false ∗ T (px c, 16) false ∗ oP c (RMm c) (total m) ∗ ∃ f, oP (px c) (RMm c) f)
      ⊢ iprop(((O c l ∗ C c 8) -∗ WP c (f ⟨⟩) Q)
        -∗ WP c (.op (.enqueueDma (oM.slice (rQ (k0_off14 c) (k0_off14_inb c)) h)
          (.remote ((⟨k0_dev10 c, k0_dev10_lt c⟩ : Dev nD) : Thread nD τ) (oM.slice (rQ (k0_off14 c) (k0_off14_inb c)) h') (.dma (sendS 5 inb_S8_S1_5)) hsc)
          (.dma (recvS 5 inb_S8_S1_5)) hsrc hdst hsem) f) Q) := by
  iintro ⟨#HK, HO, HT, HT', HX, %fd, HD⟩
  iapply (wp_xfer m K c (px c) 8 16 l (dev10_eq c) send5_eq recv5_eq (by decide) (by decide) sizeQ rfl rfl
    (Ps := oP c (RMm c) (total m)) (Pd := oP (px c) (RMm c) fd) (total m) fd
    (Entails.of_eq (by rw [o_pts, set14])) (Entails.of_eq (by rw [o_pts, set14]))
    (by rw [o_pts, set14]; exact Entails.rfl)
    (by
      rw [o_written (px c) _ h' fd (total m) _ (o_read _ h _).symm, set14]
      show _ ⊢ oP (px c) (RMo (px c)) (total m)
      rw [RMo_px])) $$ [HO HT HT' HX HD]
  isplitr; · iexact HK
  isplitl [HO]; · iexact HO
  isplitl [HT]; · iexact HT
  isplitl [HT']; · iexact HT'
  isplitl [HX]; · iexact HX
  iexact HD

/-- Transfer 6: the finished sum over `LM`. -/
theorem wp_send6 (c : Dev nD) (l : List (Dev nD × Fin 21)) {h h' : ∀ a, (rL (k0_off1 c) (k0_off1_inb c)).stride a = 1}
    {α : Type} {Q : α → sProp 𝕄} {hsc : (oM.slice (rL (k0_off1 c) (k0_off1_inb c)) h').view.ref.isScScratch = false}
    {hsrc : (oM.slice (rL (k0_off1 c) (k0_off1_inb c)) h).view.WordExact} {hdst : (oM.slice (rL (k0_off1 c) (k0_off1_inb c)) h').view.WordExact}
    {hsem : DmaTarget.Typed .vmem (.dma (recvS 6 inb_S8_S1_6))
      (.remote ((⟨k0_dev11 c, k0_dev11_lt c⟩ : Dev nD) : Thread nD τ) (oM.slice (rL (k0_off1 c) (k0_off1_inb c)) h') (.dma (sendS 6 inb_S8_S1_6)) hsc)}
    {f : PUnit → Prog (TpuEff nD τ sig (Elt F) Λ₀ .tc) α} :
    iprop(records m K ∗ O c ((px c, 17) :: l) ∗ T (c, 9) false ∗ T (px c, 17) false ∗ oP c (LM c) (total m) ∗ ∃ f, oP (px c) (LM c) f)
      ⊢ iprop(((O c l ∗ C c 9) -∗ WP c (f ⟨⟩) Q)
        -∗ WP c (.op (.enqueueDma (oM.slice (rL (k0_off1 c) (k0_off1_inb c)) h)
          (.remote ((⟨k0_dev11 c, k0_dev11_lt c⟩ : Dev nD) : Thread nD τ) (oM.slice (rL (k0_off1 c) (k0_off1_inb c)) h') (.dma (sendS 6 inb_S8_S1_6)) hsc)
          (.dma (recvS 6 inb_S8_S1_6)) hsrc hdst hsem) f) Q) := by
  iintro ⟨#HK, HO, HT, HT', HX, %fd, HD⟩
  iapply (wp_xfer m K c (px c) 9 17 l (dev11_eq c) send6_eq recv6_eq (by decide) (by decide) sizeL rfl rfl
    (Ps := oP c (LM c) (total m)) (Pd := oP (px c) (LM c) fd) (total m) fd
    (Entails.of_eq (by rw [o_pts, set1])) (Entails.of_eq (by rw [o_pts, set1]))
    (by rw [o_pts, set1]; exact Entails.rfl)
    (by
      rw [o_written (px c) _ h' fd (total m) _ (o_read _ h _).symm, set1]
      show _ ⊢ oP (px c) (LO (px c)) (total m)
      rw [LO_px])) $$ [HO HT HT' HX HD]
  isplitr; · iexact HK
  isplitl [HO]; · iexact HO
  isplitl [HT]; · iexact HT
  isplitl [HT']; · iexact HT'
  isplitl [HX]; · iexact HX
  iexact HD

/-- Transfer 7: the finished sum over `RM`. -/
theorem wp_send7 (c : Dev nD) (l : List (Dev nD × Fin 21)) {h h' : ∀ a, (rR (k0_off2 c) (k0_off2_inb c)).stride a = 1}
    {α : Type} {Q : α → sProp 𝕄} {hsc : (oM.slice (rR (k0_off2 c) (k0_off2_inb c)) h').view.ref.isScScratch = false}
    {hsrc : (oM.slice (rR (k0_off2 c) (k0_off2_inb c)) h).view.WordExact} {hdst : (oM.slice (rR (k0_off2 c) (k0_off2_inb c)) h').view.WordExact}
    {hsem : DmaTarget.Typed .vmem (.dma (recvS 7 inb_S8_S1_7))
      (.remote ((⟨k0_dev12 c, k0_dev12_lt c⟩ : Dev nD) : Thread nD τ) (oM.slice (rR (k0_off2 c) (k0_off2_inb c)) h') (.dma (sendS 7 inb_S8_S1_7)) hsc)}
    {f : PUnit → Prog (TpuEff nD τ sig (Elt F) Λ₀ .tc) α} :
    iprop(records m K ∗ O c ((py c, 18) :: l) ∗ T (c, 10) false ∗ T (py c, 18) false ∗ oP c (RM c) (total m) ∗ ∃ f, oP (py c) (RM c) f)
      ⊢ iprop(((O c l ∗ C c 10) -∗ WP c (f ⟨⟩) Q)
        -∗ WP c (.op (.enqueueDma (oM.slice (rR (k0_off2 c) (k0_off2_inb c)) h)
          (.remote ((⟨k0_dev12 c, k0_dev12_lt c⟩ : Dev nD) : Thread nD τ) (oM.slice (rR (k0_off2 c) (k0_off2_inb c)) h') (.dma (sendS 7 inb_S8_S1_7)) hsc)
          (.dma (recvS 7 inb_S8_S1_7)) hsrc hdst hsem) f) Q) := by
  iintro ⟨#HK, HO, HT, HT', HX, %fd, HD⟩
  iapply (wp_xfer m K c (py c) 10 18 l (dev12_eq c) send7_eq recv7_eq (by decide) (by decide) sizeR rfl rfl
    (Ps := oP c (RM c) (total m)) (Pd := oP (py c) (RM c) fd) (total m) fd
    (Entails.of_eq (by rw [o_pts, set2])) (Entails.of_eq (by rw [o_pts, set2]))
    (by rw [o_pts, set2]; exact Entails.rfl)
    (by
      rw [o_written (py c) _ h' fd (total m) _ (o_read _ h _).symm, set2]
      show _ ⊢ oP (py c) (RO (py c)) (total m)
      rw [RO_py])) $$ [HO HT HT' HX HD]
  isplitr; · iexact HK
  isplitl [HO]; · iexact HO
  isplitl [HT]; · iexact HT
  isplitl [HT']; · iexact HT'
  isplitl [HX]; · iexact HX
  iexact HD

end Cert.AllReduce

end
-- ==== Proof.Pieces.lean ====
/-
# What each wait hands over, and the regions cut and joined

The payloads of the protocol spelled out at the cells the kernel waits on and signals; the result's regions split and put
together; what the kernel's additions store.
-/
module

public import proofs.«01_k».proof.Proof.Moves

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.RefSig (tileCredit)

variable {F : FTy → Type} [FloatOps F]

local notation "𝕄" => MT nD τ sig Unit (Elt F) ℕ UU ℕ

variable (m : (ℓ : Loc nD τ sig) → Buf (Elt F) ℓ)

/-! ## What a device gives with a signal -/

theorem give_bar_x (c : Dev nD) : iprop((∃ f, oP c (LO c) f) ∗ ∃ f, rbP c f) = pay m (px c) 0 false := by
  show _ = iprop((∃ f, oP (px (px c)) (LM (px c)) f) ∗ ∃ f, rbP (px (px c)) f)
  rw [LM_px, px_px]
theorem give_bar_y (c : Dev nD) : iprop((∃ f, oP c (RO c) f) ∗ ∃ f, raP c f) = pay m (py c) 0 true := by
  show _ = iprop((∃ f, oP (py (py c)) (RM (py c)) f) ∗ ∃ f, raP (py (py c)) f)
  rw [RM_py, py_py]
theorem give_cred_x (c : Dev nD) : iprop(∃ f, oP c (LO c) f) = pay m (px c) 1 false := by
  show _ = iprop(∃ f, oP (px (px c)) (LM (px c)) f)
  rw [LM_px, px_px]
theorem give_cred_y (c : Dev nD) : iprop(∃ f, oP c (RO c) f) = pay m (py c) 2 false := by
  show _ = iprop(∃ f, oP (py (py c)) (RM (py c)) f)
  rw [RM_py, py_py]

/-! ## What it gets with a wait -/

theorem got0 (c : Dev nD) : payAll m c 0
    = iprop(((∃ f, oP (px c) (LM c) f) ∗ ∃ f, rbP (px c) f) ∗ ((∃ f, oP (py c) (RM c) f) ∗ ∃ f, raP (py c) f)) := rfl
theorem got1 (c : Dev nD) : payAll m c 1 = iprop(∃ f, oP (px c) (LM c) f) := rfl
theorem got2 (c : Dev nD) : payAll m c 2 = iprop(∃ f, oP (py c) (RM c) f) := rfl
theorem got3 (c : Dev nD) : payAll m c 3 = xP c (LO c) (X m c) := rfl
theorem got4 (c : Dev nD) : payAll m c 4 = xP c (RO c) (X m c) := rfl
theorem got7 (c : Dev nD) : payAll m c 7 = oP c (LMm c) (total m) := rfl
theorem got8 (c : Dev nD) : payAll m c 8 = oP c (RMm c) (total m) := rfl
theorem got9 (c : Dev nD) : payAll m c 9 = oP c (LM c) (total m) := rfl
theorem got10 (c : Dev nD) : payAll m c 10 = oP c (RM c) (total m) := rfl
theorem got11 (c : Dev nD) : payAll m c 11
    = iprop(∃ f : Blk F, ⌜under (rL (k0_off5 c) (k0_off5_inb c)) f = under (rL (k0_off1 c) (k0_off1_inb c)) (X m (px c))⌝ ∗ oP c (LO c) f) := rfl
theorem got12 (c : Dev nD) : payAll m c 12
    = iprop(∃ f : Blk F, ⌜under (rR (k0_off8 c) (k0_off8_inb c)) f = under (rR (k0_off2 c) (k0_off2_inb c)) (X m (py c))⌝ ∗ oP c (RO c) f) := rfl
theorem got13 (c : Dev nD) : payAll m c 13 = iprop(raP c (under (rQ (k0_off11 c) (k0_off11_inb c)) (E1 m (py c))) ∗ ∃ f, oP (py c) (LMm c) f) := rfl
theorem got14 (c : Dev nD) : payAll m c 14 = iprop(rbP c (under (rQ (k0_off13 c) (k0_off13_inb c)) (D1 m (px c))) ∗ ∃ f, oP (px c) (RMm c) f) := rfl
theorem got15 (c : Dev nD) : payAll m c 15 = oP c (LMo c) (total m) := rfl
theorem got16 (c : Dev nD) : payAll m c 16 = oP c (RMo c) (total m) := rfl
theorem got17 (c : Dev nD) : payAll m c 17 = oP c (LO c) (total m) := rfl
theorem got18 (c : Dev nD) : payAll m c 18 = oP c (RO c) (total m) := rfl
theorem got19 (c : Dev nD) : payAll m c 19 = iprop(xP c (LM c) (X m c) ∗ xaP c (under (rL (k0_off1 c) (k0_off1_inb c)) (X m c))) := rfl
theorem got20 (c : Dev nD) : payAll m c 20 = iprop(xP c (RM c) (X m c) ∗ xbP c (under (rR (k0_off2 c) (k0_off2_inb c)) (X m c))) := rfl

/-! ## What the additions store -/

theorem sum1 (c : Dev nD) : under (rL (k0_off6 c) (k0_off6_inb c)) (E1 m c)
    = k0_pay1 (under (rL (k0_off1 c) (k0_off1_inb c)) (X m c)) (under (rL (k0_off1 c) (k0_off1_inb c)) (X m (px c))) := by
  rw [pay1_eq, under_congr (off61 c) (inb' := k0_off1_inb c)]; rfl
theorem sum2 (c : Dev nD) : under (rR (k0_off9 c) (k0_off9_inb c)) (D1 m c)
    = k0_pay2 (under (rR (k0_off2 c) (k0_off2_inb c)) (X m c)) (under (rR (k0_off2 c) (k0_off2_inb c)) (X m (py c))) := by
  rw [pay2_eq, under_congr (off92 c) (inb' := k0_off2_inb c)]; rfl
theorem sum3 (c : Dev nD) : under (rQ (k0_off11 c) (k0_off11_inb c)) (E2 m c)
    = k0_pay3 (under (rQ (k0_off11 c) (k0_off11_inb c)) (E1 m c)) (under (rQ (k0_off11 c) (k0_off11_inb c)) (E1 m (py c))) := by
  rw [pay3_eq]; rfl
theorem sum4 (c : Dev nD) : under (rQ (k0_off13 c) (k0_off13_inb c)) (D2 m c)
    = k0_pay4 (under (rQ (k0_off13 c) (k0_off13_inb c)) (D1 m c)) (under (rQ (k0_off13 c) (k0_off13_inb c)) (D1 m (px c))) := by
  rw [pay4_eq]; rfl

/-- On the quarter a device finishes, its second sum is the result. -/
theorem finished_left (c : Dev nD) : (oP c (LMm c) (E2 m c) : sProp 𝕄) = oP c (LMm c) (total m) :=
  oP_congr c fun i hi => by
    rw [mem_box] at hi
    have hc := mod_lt c
    have ho : own i = c := Fin.ext (by show 2 * ((i (0 : Fin 2)).val / 2048) + ((i (1 : Fin 2)).val / 512) % 2 = c.val; omega)
    unfold total
    rw [if_pos (by omega), ho]
theorem finished_right (c : Dev nD) : (oP c (RMm c) (D2 m c) : sProp 𝕄) = oP c (RMm c) (total m) :=
  oP_congr c fun i hi => by
    rw [mem_box] at hi
    have hc := mod_lt c
    have ho : own i = c := Fin.ext (by show 2 * ((i (0 : Fin 2)).val / 2048) + ((i (1 : Fin 2)).val / 512) % 2 = c.val; omega)
    unfold total
    rw [if_neg (by omega), ho]

/-! ## Regions -/

theorem out_LM (c d : Dev nD) (f : Blk F) : (oP c (LM d) f : sProp 𝕄) ⊣⊢ iprop(oP c (LMm d) f ∗ oP c (LMo d) f) := by
  rw [LM_union d]; exact pointsTo_union (LM_disj d)
theorem out_RM (c d : Dev nD) (f : Blk F) : (oP c (RM d) f : sProp 𝕄) ⊣⊢ iprop(oP c (RMm d) f ∗ oP c (RMo d) f) := by
  rw [RM_union d]; exact pointsTo_union (RM_disj d)

/-- The whole result as its four regions, and the whole source. -/
theorem out_whole (c : Dev nD) (f : Blk F) : (oP c Finset.univ f : sProp 𝕄) ⊣⊢ iprop((oP c (LM c) f ∗ oP c (LO c) f) ∗ (oP c (RM c) f ∗ oP c (RO c) f)) := by
  rw [univ_union]
  have hL : (oP c LH f : sProp 𝕄) ⊣⊢ iprop(oP c (LM c) f ∗ oP c (LO c) f) := by rw [LH_union c]; exact pointsTo_union (LH_disj c)
  have hR : (oP c RH f : sProp 𝕄) ⊣⊢ iprop(oP c (RM c) f ∗ oP c (RO c) f) := by rw [RH_union c]; exact pointsTo_union (RH_disj c)
  exact ⟨(pointsTo_union half_disj).1.trans (BI.sep_mono hL.1 hR.1), (BI.sep_mono hL.2 hR.2).trans (pointsTo_union half_disj).2⟩
theorem x_whole (c : Dev nD) (f : Blk F) : (xP c Finset.univ f : sProp 𝕄) ⊣⊢ iprop((xP c (LM c) f ∗ xP c (LO c) f) ∗ (xP c (RM c) f ∗ xP c (RO c) f)) := by
  rw [univ_union]
  have hL : (xP c LH f : sProp 𝕄) ⊣⊢ iprop(xP c (LM c) f ∗ xP c (LO c) f) := by rw [LH_union c]; exact pointsTo_union (LH_disj c)
  have hR : (xP c RH f : sProp 𝕄) ⊣⊢ iprop(xP c (RM c) f ∗ xP c (RO c) f) := by rw [RH_union c]; exact pointsTo_union (RH_disj c)
  exact ⟨(pointsTo_union half_disj).1.trans (BI.sep_mono hL.1 hR.1), (BI.sep_mono hL.2 hR.2).trans (pointsTo_union half_disj).2⟩

/-! ## Levels -/

/-- A wait's level is below those of a list of duties, checked cell by cell. -/
theorem below {k : Fin 21} {l : List (Dev nD × Fin 21)} (h : (l.map Prod.snd).all (fun j => decide (lvl k < lvl j)) = true) :
    ∀ p ∈ l, lvl k < lvl p.2 := fun p hp =>
  of_decide_eq_true (List.all_eq_true.mp h p.2 (List.mem_map_of_mem hp))

end Cert.AllReduce

end
-- ==== Proof.Parts.lean ====
/-
# The kernel's parts, run

The kernel's body is printed in nine parts and a tail. Each theorem runs one part from what it needs to what it leaves,
one rule for each instruction in program order.
-/
module

public import proofs.«01_k».proof.Proof.Pieces

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.RefSig (tileCredit)

variable {F : FTy → Type} [FloatOps F]

local notation "𝕄" => MT nD τ sig Unit (Elt F) ℕ UU ℕ

variable (m : (ℓ : Loc nD τ sig) → Buf (Elt F) ℓ) (K : Dev nD × Fin 21 → ℕ)

/-- The words the kernel signals and waits with, as numbers of units. -/
theorem one_word : (1#32 : BitVec 32).toInt = 1 := by decide
theorem one_units : (1#32 : BitVec 32).toInt = ((1 : ℕ) : ℤ) := by decide
theorem two_word : (2#32 : BitVec 32).toInt = ((2 : ℕ) : ℤ) := by decide

/-- A program that has ended has what it has. -/
theorem wp_done (c : Dev nD) {α : Type} {Q : α → sProp 𝕄} {a : α} : Q a ⊢ WP c (.ret a : Prog (TpuEff nD τ sig (Elt F) Λ₀ .tc) α) Q := le_wp_ret _ _ _ a Q

/-- A program followed by another. -/
theorem wp_seq (c : Dev nD) {α β : Type} {p : Prog (TpuEff nD τ sig (Elt F) Λ₀ .tc) α} {k : α → Prog (TpuEff nD τ sig (Elt F) Λ₀ .tc) β}
    {Q : β → sProp 𝕄} : WP c p (fun a => WP c (k a) Q) ⊢ WP c (p >>= k) Q := Entails.of_eq (wp_bind _ _ _ p k Q).symm

/-- A region whose contents no longer matter. -/
theorem some_out (c : Dev nD) (R : Finset I2) (g : Blk F) : (oP c R g : sProp 𝕄) ⊢ iprop(∃ f, oP c R f) := by
  iintro H; iexists g; iexact H

/-- Statements up to the barrier: both copies started, the landing places exchanged with the neighbours. -/
theorem part1 (c : Dev nD) {Q : (Σ' (d0 : Dev nD) (v2 : BitVec 32) (v5 : BitVec 32) (v6 : BitVec 32) (v7 : BitVec 32), BitVec 32) → sProp 𝕄} :
    iprop(records m K ∗ levAts L lv ∗ O c [(px c, 0), (py c, 0), (px c, 11), (py c, 12), (px c, 1), (py c, 13), (py c, 2), (px c, 14), (py c, 15), (px c, 16), (px c, 17), (py c, 18)] ∗ xP c (LM c) (X m c) ∗ xP c (RM c) (X m c) ∗ (∃ f, xaP c f) ∗ (∃ f, xbP c f) ∗ T (c, 19) false ∗ T (c, 20) false ∗ T (px c, 0) false ∗ T (py c, 0) true ∗ (∃ f, oP c (LO c) f) ∗ (∃ f, rbP c f) ∗ (∃ f, oP c (RO c) f) ∗ (∃ f, raP c f) ∗ A c 0 ∗ C c 0
      ∗ (∀ v2 v5 v6 v7 w, (O c [(px c, 11), (py c, 12), (px c, 1), (py c, 13), (py c, 2), (px c, 14), (py c, 15), (px c, 16), (px c, 17), (py c, 18)] ∗ C c 19 ∗ C c 20 ∗ Z c 0 ∗ (∃ f, oP (px c) (LM c) f) ∗ (∃ f, rbP (px c) f) ∗ (∃ f, oP (py c) (RM c) f) ∗ (∃ f, raP (py c) f)) -∗ Q ⟨c, v2, v5, v6, v7, w⟩))
    ⊢ WP c (k0_part1 (F := F) xM (Memref.isWhole_whole _) oM (Memref.isWhole_whole _) xaM (Memref.isWhole_whole _) xbM (Memref.isWhole_whole _)
        raM (Memref.isWhole_whole _) rbM (Memref.isWhole_whole _) cc0_scratch4 cc0_scratch5 cc0_scratch6 cc0_scratch7) Q := by
  simp only [k0_part1_eq_skeleton]; unfold k0_part1_skel
  simp only [semSignalWord, semWaitWord, Prog.lift, Prog.bind_op, Prog.bind_ret, Prog.pure_eq_ret, wp_deviceId, one_word, two_word]
  iintro ⟨#HK, #HL, HO, HXLM, HXRM, HxaE, HxbE, HT19, HT20, HU0px, HU0py, HELO, HrbE, HERO, HraE, HA0, HC0, Hk⟩
  iapply (wp_copy0 m K c) $$ [HT19 HXLM HxaE]
  · isplitr; · iexact HK
    isplitl [HT19]; · iexact HT19
    isplitl [HXLM]; · iexact HXLM
    iexact HxaE
  iintro HC19
  iapply (wp_copy1 m K c) $$ [HT20 HXRM HxbE]
  · isplitr; · iexact HK
    isplitl [HT20]; · iexact HT20
    isplitl [HXRM]; · iexact HXRM
    iexact HxbE
  iintro HC20
  ihave HG := (Entails.of_eq (give_bar_x m c)) $$ [HELO HrbE]
  · isplitl [HELO]; · iexact HELO
    iexact HrbE
  iapply (wp_sig m K c (px c) 0 false [(py c, 0), (px c, 11), (py c, 12), (px c, 1), (py c, 13), (py c, 2), (px c, 14), (py c, 15), (px c, 16), (px c, 17), (py c, 18)] (dev1_eq c) bar_eq (by decide) rfl) $$ [HO HU0px HG]
  · isplitr; · iexact HK
    isplitl [HO]; · iexact HO
    isplitl [HU0px]; · iexact HU0px
    iexact HG
  iintro HO
  ihave HG := (Entails.of_eq (give_bar_y m c)) $$ [HERO HraE]
  · isplitl [HERO]; · iexact HERO
    iexact HraE
  iapply (wp_sig m K c (py c) 0 true [(px c, 11), (py c, 12), (px c, 1), (py c, 13), (py c, 2), (px c, 14), (py c, 15), (px c, 16), (px c, 17), (py c, 18)] (dev2_eq c) bar_eq (by decide) rfl) $$ [HO HU0py HG]
  · isplitr; · iexact HK
    isplitl [HO]; · iexact HO
    isplitl [HU0py]; · iexact HU0py
    iexact HG
  iintro HO
  iapply (wp_awaitSem m K c 0 [(px c, 11), (py c, 12), (px c, 1), (py c, 13), (py c, 2), (px c, 14), (py c, 15), (px c, 16), (px c, 17), (py c, 18)] bar_eq 2 rfl (below rfl)) $$ [HO HC0 HA0]
  · isplitr; · iexact HK
    isplitr; · iexact HL
    isplitl [HO]; · iexact HO
    isplitl [HC0]; · iexact HC0
    iexact HA0
  iintro ⟨HO, HZ0, HP⟩
  ihave HP := (Entails.of_eq (got0 m c)) $$ HP
  icases HP with ⟨⟨HNLM, HNrb⟩, HNRM, HNra⟩
  iapply (wp_done c)
  iapply Hk
  isplitl [HO]; · iexact HO
  isplitl [HC19]; · iexact HC19
  isplitl [HC20]; · iexact HC20
  isplitl [HZ0]; · iexact HZ0
  isplitl [HNLM]; · iexact HNLM
  isplitl [HNrb]; · iexact HNrb
  isplitl [HNRM]; · iexact HNRM
  iexact HNra

/-- The first step's two transfers, and the wait for the first copy. -/
theorem part2 (c : Dev nD) (v2 : BitVec 32) (v5 : BitVec 32) (v6 : BitVec 32) (v7 : BitVec 32) (w : BitVec 32) {Q : PUnit → sProp 𝕄} :
    iprop(records m K ∗ levAts L lv ∗ O c [(px c, 11), (py c, 12), (px c, 1), (py c, 13), (py c, 2), (px c, 14), (py c, 15), (px c, 16), (px c, 17), (py c, 18)] ∗ xP c (LO c) (X m c) ∗ (∃ f, oP (px c) (LM c) f) ∗ T (c, 3) false ∗ T (px c, 11) false ∗ xP c (RO c) (X m c) ∗ (∃ f, oP (py c) (RM c) f) ∗ T (c, 4) false ∗ T (py c, 12) false ∗ C c 19 ∗ A c 19
      ∗ ((O c [(px c, 1), (py c, 13), (py c, 2), (px c, 14), (py c, 15), (px c, 16), (px c, 17), (py c, 18)] ∗ C c 3 ∗ C c 4 ∗ Z c 19 ∗ xP c (LM c) (X m c) ∗ xaP c (under (rL (k0_off1 c) (k0_off1_inb c)) (X m c))) -∗ Q ⟨⟩))
    ⊢ WP c (k0_part2 (F := F) xM (Memref.isWhole_whole _) oM (Memref.isWhole_whole _) xaM (Memref.isWhole_whole _) xbM (Memref.isWhole_whole _)
        raM (Memref.isWhole_whole _) rbM (Memref.isWhole_whole _) cc0_scratch4 cc0_scratch5 cc0_scratch6 cc0_scratch7 c v2 v5 v6 v7 w) Q := by
  simp only [k0_part2_eq_skeleton]; unfold k0_part2_skel
  simp only [semSignalWord, semWaitWord, Prog.lift, Prog.bind_op, Prog.bind_ret, Prog.pure_eq_ret, wp_deviceId]
  iintro ⟨#HK, #HL, HO, HXLO, HNLM, HT3, HU11, HXRO, HNRM, HT4, HU12, HC19, HA19, Hk⟩
  iapply (wp_send0 m K c [(py c, 12), (px c, 1), (py c, 13), (py c, 2), (px c, 14), (py c, 15), (px c, 16), (px c, 17), (py c, 18)]) $$ [HO HT3 HU11 HXLO HNLM]
  · isplitr; · iexact HK
    isplitl [HO]; · iexact HO
    isplitl [HT3]; · iexact HT3
    isplitl [HU11]; · iexact HU11
    isplitl [HXLO]; · iexact HXLO
    iexact HNLM
  iintro ⟨HO, HC3⟩
  iapply (wp_send1 m K c [(px c, 1), (py c, 13), (py c, 2), (px c, 14), (py c, 15), (px c, 16), (px c, 17), (py c, 18)]) $$ [HO HT4 HU12 HXRO HNRM]
  · isplitr; · iexact HK
    isplitl [HO]; · iexact HO
    isplitl [HT4]; · iexact HT4
    isplitl [HU12]; · iexact HU12
    isplitl [HXRO]; · iexact HXRO
    iexact HNRM
  iintro ⟨HO, HC4⟩
  iapply (wp_awaitDma m K c 19 [(px c, 1), (py c, 13), (py c, 2), (px c, 14), (py c, 15), (px c, 16), (px c, 17), (py c, 18)] copy0_eq sizeL (below rfl)) $$ [HO HC19 HA19]
  · isplitr; · iexact HK
    isplitr; · iexact HL
    isplitl [HO]; · iexact HO
    isplitl [HC19]; · iexact HC19
    iexact HA19
  iintro ⟨HO, HZ19, HP⟩
  ihave HP := (Entails.of_eq (got19 m c)) $$ HP
  icases HP with ⟨HXLM, Hxa⟩
  iapply (wp_done c)
  iapply Hk
  isplitl [HO]; · iexact HO
  isplitl [HC3]; · iexact HC3
  isplitl [HC4]; · iexact HC4
  isplitl [HZ19]; · iexact HZ19
  isplitl [HXLM]; · iexact HXLM
  iexact Hxa

/-- The first step's sum over the left half; the region the last step writes given to the neighbour. -/
theorem part3 (c : Dev nD) (v2 : BitVec 32) (v5 : BitVec 32) (v6 : BitVec 32) {Q : (Σ' (_ : BitVec 32), BitVec 32) → sProp 𝕄} :
    iprop(records m K ∗ levAts L lv ∗ O c [(px c, 1), (py c, 13), (py c, 2), (px c, 14), (py c, 15), (px c, 16), (px c, 17), (py c, 18)] ∗ C c 3 ∗ A c 3 ∗ C c 11 ∗ A c 11 ∗ xaP c (under (rL (k0_off1 c) (k0_off1_inb c)) (X m c)) ∗ (∃ f, oP c (LM c) f) ∗ T (px c, 1) false
      ∗ (∀ r, (O c [(py c, 13), (py c, 2), (px c, 14), (py c, 15), (px c, 16), (px c, 17), (py c, 18)] ∗ Z c 3 ∗ Z c 11 ∗ xP c (LO c) (X m c) ∗ oP c (LM c) (E1 m c) ∗ xaP c (under (rL (k0_off1 c) (k0_off1_inb c)) (X m c))) -∗ Q r))
    ⊢ WP c (k0_part3 (F := F) xM (Memref.isWhole_whole _) oM (Memref.isWhole_whole _) xaM (Memref.isWhole_whole _) xbM (Memref.isWhole_whole _)
        raM (Memref.isWhole_whole _) rbM (Memref.isWhole_whole _) cc0_scratch4 cc0_scratch5 cc0_scratch6 cc0_scratch7 c v2 v5 v6) Q := by
  simp only [k0_part3_eq_skeleton]; unfold k0_part3_skel
  simp only [semSignalWord, semWaitWord, Prog.lift, Prog.bind_op, Prog.bind_ret, Prog.pure_eq_ret, wp_deviceId, one_word]
  iintro ⟨#HK, #HL, HO, HC3, HA3, HC11, HA11, Hxa, HELM, HU1, Hk⟩
  iapply (wp_awaitDma m K c 3 [(px c, 1), (py c, 13), (py c, 2), (px c, 14), (py c, 15), (px c, 16), (px c, 17), (py c, 18)] send0_eq sizeL (below rfl)) $$ [HO HC3 HA3]
  · isplitr; · iexact HK
    isplitr; · iexact HL
    isplitl [HO]; · iexact HO
    isplitl [HC3]; · iexact HC3
    iexact HA3
  iintro ⟨HO, HZ3, HP⟩
  ihave HP := (Entails.of_eq (got3 m c)) $$ HP
  icases HP with HXLO
  iapply (wp_awaitDma m K c 11 [(px c, 1), (py c, 13), (py c, 2), (px c, 14), (py c, 15), (px c, 16), (px c, 17), (py c, 18)] recv0_eq sizeL (below rfl)) $$ [HO HC11 HA11]
  · isplitr; · iexact HK
    isplitr; · iexact HL
    isplitl [HO]; · iexact HO
    isplitl [HC11]; · iexact HC11
    iexact HA11
  iintro ⟨HO, HZ11, HP⟩
  ihave HP := (Entails.of_eq (got11 m c)) $$ HP
  icases HP with ⟨%g, %hg, Hg⟩
  iapply (ld_xa c _) $$ Hxa; iintro Hxa
  iapply (ld_out c (rL (k0_off5 c) (k0_off5_inb c)) g (subset_of_eq (set5 c))) $$ Hg; iintro Hg
  rw [hg]
  icases HELM with ⟨%e, HELM⟩
  iapply (ld_out c (rL (k0_off6 c) (k0_off6_inb c)) e (subset_of_eq (set6 c))) $$ HELM; iintro HELM
  iapply (st_out c (rL (k0_off6 c) (k0_off6_inb c)) (set6 c) e (E1 m c) _ (sum1 m c)) $$ HELM; iintro HSLM
  ihave HELO := (some_out c (LO c) g) $$ Hg
  ihave HG := (Entails.of_eq (give_cred_x m c)) $$ [HELO]
  · iexact HELO
  iapply (wp_sig m K c (px c) 1 false [(py c, 13), (py c, 2), (px c, 14), (py c, 15), (px c, 16), (px c, 17), (py c, 18)] (dev5_eq c) cred0_eq (by decide) rfl) $$ [HO HU1 HG]
  · isplitr; · iexact HK
    isplitl [HO]; · iexact HO
    isplitl [HU1]; · iexact HU1
    iexact HG
  iintro HO
  iapply (wp_done c)
  iapply Hk
  isplitl [HO]; · iexact HO
  isplitl [HZ3]; · iexact HZ3
  isplitl [HZ11]; · iexact HZ11
  isplitl [HXLO]; · iexact HXLO
  isplitl [HSLM]; · iexact HSLM
  iexact Hxa

/-- The second step's transfer over the left half, and the first step's sum over the right half. -/
theorem part4 (c : Dev nD) (v2 : BitVec 32) (v5 : BitVec 32) (v7 : BitVec 32) (v88 : BitVec 32) (w : BitVec 32) {Q : PUnit → sProp 𝕄} :
    iprop(records m K ∗ levAts L lv ∗ O c [(py c, 13), (py c, 2), (px c, 14), (py c, 15), (px c, 16), (px c, 17), (py c, 18)] ∗ oP c (LM c) (E1 m c) ∗ (∃ f, raP (py c) f) ∗ T (c, 5) false ∗ T (py c, 13) false ∗ C c 20 ∗ A c 20 ∗ C c 4 ∗ A c 4 ∗ C c 12 ∗ A c 12 ∗ (∃ f, oP c (RM c) f)
      ∗ ((O c [(py c, 2), (px c, 14), (py c, 15), (px c, 16), (px c, 17), (py c, 18)] ∗ C c 5 ∗ Z c 20 ∗ Z c 4 ∗ Z c 12 ∗ xP c (RM c) (X m c) ∗ xP c (RO c) (X m c) ∗ xbP c (under (rR (k0_off2 c) (k0_off2_inb c)) (X m c)) ∗ (∃ f, oP c (RO c) f) ∗ oP c (RM c) (D1 m c) ∗ oP c (LMm c) (E1 m c)) -∗ Q ⟨⟩))
    ⊢ WP c (k0_part4 (F := F) xM (Memref.isWhole_whole _) oM (Memref.isWhole_whole _) xaM (Memref.isWhole_whole _) xbM (Memref.isWhole_whole _)
        raM (Memref.isWhole_whole _) rbM (Memref.isWhole_whole _) cc0_scratch4 cc0_scratch5 cc0_scratch6 cc0_scratch7 c v2 v5 v7 v88 w) Q := by
  simp only [k0_part4_eq_skeleton]; unfold k0_part4_skel
  simp only [semSignalWord, semWaitWord, Prog.lift, Prog.bind_op, Prog.bind_ret, Prog.pure_eq_ret, wp_deviceId]
  iintro ⟨#HK, #HL, HO, HSLM, HNra, HT5, HU13, HC20, HA20, HC4, HA4, HC12, HA12, HERM, Hk⟩
  ihave HSLM := (out_LM c c (E1 m c)).1 $$ HSLM
  icases HSLM with ⟨HSLMm, HSLMo⟩
  iapply (wp_send2 m K c [(py c, 2), (px c, 14), (py c, 15), (px c, 16), (px c, 17), (py c, 18)]) $$ [HO HT5 HU13 HSLMo HNra]
  · isplitr; · iexact HK
    isplitl [HO]; · iexact HO
    isplitl [HT5]; · iexact HT5
    isplitl [HU13]; · iexact HU13
    isplitl [HSLMo]; · iexact HSLMo
    iexact HNra
  iintro ⟨HO, HC5⟩
  iapply (wp_awaitDma m K c 20 [(py c, 2), (px c, 14), (py c, 15), (px c, 16), (px c, 17), (py c, 18)] copy1_eq sizeR (below rfl)) $$ [HO HC20 HA20]
  · isplitr; · iexact HK
    isplitr; · iexact HL
    isplitl [HO]; · iexact HO
    isplitl [HC20]; · iexact HC20
    iexact HA20
  iintro ⟨HO, HZ20, HP⟩
  ihave HP := (Entails.of_eq (got20 m c)) $$ HP
  icases HP with ⟨HXRM, Hxb⟩
  iapply (wp_awaitDma m K c 4 [(py c, 2), (px c, 14), (py c, 15), (px c, 16), (px c, 17), (py c, 18)] send1_eq sizeR (below rfl)) $$ [HO HC4 HA4]
  · isplitr; · iexact HK
    isplitr; · iexact HL
    isplitl [HO]; · iexact HO
    isplitl [HC4]; · iexact HC4
    iexact HA4
  iintro ⟨HO, HZ4, HP⟩
  ihave HP := (Entails.of_eq (got4 m c)) $$ HP
  icases HP with HXRO
  iapply (wp_awaitDma m K c 12 [(py c, 2), (px c, 14), (py c, 15), (px c, 16), (px c, 17), (py c, 18)] recv1_eq sizeR (below rfl)) $$ [HO HC12 HA12]
  · isplitr; · iexact HK
    isplitr; · iexact HL
    isplitl [HO]; · iexact HO
    isplitl [HC12]; · iexact HC12
    iexact HA12
  iintro ⟨HO, HZ12, HP⟩
  ihave HP := (Entails.of_eq (got12 m c)) $$ HP
  icases HP with ⟨%g, %hg, Hg⟩
  iapply (ld_xb c _) $$ Hxb; iintro Hxb
  iapply (ld_out c (rR (k0_off8 c) (k0_off8_inb c)) g (subset_of_eq (set8 c))) $$ Hg; iintro Hg
  rw [hg]
  icases HERM with ⟨%e, HERM⟩
  iapply (ld_out c (rR (k0_off9 c) (k0_off9_inb c)) e (subset_of_eq (set9 c))) $$ HERM; iintro HERM
  iapply (st_out c (rR (k0_off9 c) (k0_off9_inb c)) (set9 c) e (D1 m c) _ (sum2 m c)) $$ HERM; iintro HSRM
  ihave HERO := (some_out c (RO c) g) $$ Hg
  iapply (wp_done c)
  iapply Hk
  isplitl [HO]; · iexact HO
  isplitl [HC5]; · iexact HC5
  isplitl [HZ20]; · iexact HZ20
  isplitl [HZ4]; · iexact HZ4
  isplitl [HZ12]; · iexact HZ12
  isplitl [HXRM]; · iexact HXRM
  isplitl [HXRO]; · iexact HXRO
  isplitl [Hxb]; · iexact Hxb
  isplitl [HERO]; · iexact HERO
  isplitl [HSRM]; · iexact HSRM
  iexact HSLMm

/-- The second region given to its neighbour, and the second step's transfer over the right half. -/
theorem part5 (c : Dev nD) (v2 : BitVec 32) (v5 : BitVec 32) (v6 : BitVec 32) (v7 : BitVec 32) {Q : PUnit → sProp 𝕄} :
    iprop(records m K ∗ levAts L lv ∗ O c [(py c, 2), (px c, 14), (py c, 15), (px c, 16), (px c, 17), (py c, 18)] ∗ (∃ f, oP c (RO c) f) ∗ T (py c, 2) false ∗ oP c (RM c) (D1 m c) ∗ (∃ f, rbP (px c) f) ∗ T (c, 6) false ∗ T (px c, 14) false
      ∗ ((O c [(py c, 15), (px c, 16), (px c, 17), (py c, 18)] ∗ C c 6 ∗ oP c (RMm c) (D1 m c)) -∗ Q ⟨⟩))
    ⊢ WP c (k0_part5 (F := F) xM (Memref.isWhole_whole _) oM (Memref.isWhole_whole _) xaM (Memref.isWhole_whole _) xbM (Memref.isWhole_whole _)
        raM (Memref.isWhole_whole _) rbM (Memref.isWhole_whole _) cc0_scratch4 cc0_scratch5 cc0_scratch6 cc0_scratch7 c v2 v5 v6 v7) Q := by
  simp only [k0_part5_eq_skeleton]; unfold k0_part5_skel
  simp only [semSignalWord, semWaitWord, Prog.lift, Prog.bind_op, Prog.bind_ret, Prog.pure_eq_ret, wp_deviceId, one_word]
  iintro ⟨#HK, #HL, HO, HERO, HU2, HSRM, HNrb, HT6, HU14, Hk⟩
  ihave HG := (Entails.of_eq (give_cred_y m c)) $$ [HERO]
  · iexact HERO
  iapply (wp_sig m K c (py c) 2 false [(px c, 14), (py c, 15), (px c, 16), (px c, 17), (py c, 18)] (dev7_eq c) cred1_eq (by decide) rfl) $$ [HO HU2 HG]
  · isplitr; · iexact HK
    isplitl [HO]; · iexact HO
    isplitl [HU2]; · iexact HU2
    iexact HG
  iintro HO
  ihave HSRM := (out_RM c c (D1 m c)).1 $$ HSRM
  icases HSRM with ⟨HSRMm, HSRMo⟩
  iapply (wp_send3 m K c [(py c, 15), (px c, 16), (px c, 17), (py c, 18)]) $$ [HO HT6 HU14 HSRMo HNrb]
  · isplitr; · iexact HK
    isplitl [HO]; · iexact HO
    isplitl [HT6]; · iexact HT6
    isplitl [HU14]; · iexact HU14
    isplitl [HSRMo]; · iexact HSRMo
    iexact HNrb
  iintro ⟨HO, HC6⟩
  iapply (wp_done c)
  iapply Hk
  isplitl [HO]; · iexact HO
  isplitl [HC6]; · iexact HC6
  iexact HSRMm

/-- The second step's sum over the left half, sent back to the neighbour. -/
theorem part6 (c : Dev nD) (v2 : BitVec 32) (v5 : BitVec 32) (v7 : BitVec 32) {Q : PUnit → sProp 𝕄} :
    iprop(records m K ∗ levAts L lv ∗ O c [(py c, 15), (px c, 16), (px c, 17), (py c, 18)] ∗ C c 5 ∗ A c 5 ∗ C c 13 ∗ A c 13 ∗ oP c (LMm c) (E1 m c) ∗ T (c, 7) false ∗ T (py c, 15) false
      ∗ ((O c [(px c, 16), (px c, 17), (py c, 18)] ∗ Z c 5 ∗ Z c 13 ∗ raP c (under (rQ (k0_off11 c) (k0_off11_inb c)) (E1 m (py c))) ∗ C c 7) -∗ Q ⟨⟩))
    ⊢ WP c (k0_part6 (F := F) xM (Memref.isWhole_whole _) oM (Memref.isWhole_whole _) xaM (Memref.isWhole_whole _) xbM (Memref.isWhole_whole _)
        raM (Memref.isWhole_whole _) rbM (Memref.isWhole_whole _) cc0_scratch4 cc0_scratch5 cc0_scratch6 cc0_scratch7 c v2 v5 v7) Q := by
  simp only [k0_part6_eq_skeleton]; unfold k0_part6_skel
  simp only [semSignalWord, semWaitWord, Prog.lift, Prog.bind_op, Prog.bind_ret, Prog.pure_eq_ret, wp_deviceId]
  iintro ⟨#HK, #HL, HO, HC5, HA5, HC13, HA13, HSLMm, HT7, HU15, Hk⟩
  iapply (wp_awaitDma m K c 5 [(py c, 15), (px c, 16), (px c, 17), (py c, 18)] send2_eq sizeQ (below rfl)) $$ [HO HC5 HA5]
  · isplitr; · iexact HK
    isplitr; · iexact HL
    isplitl [HO]; · iexact HO
    isplitl [HC5]; · iexact HC5
    iexact HA5
  iintro ⟨HO, HZ5, HP⟩
  iclear HP
  iapply (wp_awaitDma m K c 13 [(py c, 15), (px c, 16), (px c, 17), (py c, 18)] recv2_eq sizeQ (below rfl)) $$ [HO HC13 HA13]
  · isplitr; · iexact HK
    isplitr; · iexact HL
    isplitl [HO]; · iexact HO
    isplitl [HC13]; · iexact HC13
    iexact HA13
  iintro ⟨HO, HZ13, HP⟩
  ihave HP := (Entails.of_eq (got13 m c)) $$ HP
  icases HP with ⟨Hra, HNLMm⟩
  iapply (ld_out c (rQ (k0_off11 c) (k0_off11_inb c)) (E1 m c) (subset_of_eq (set11 c))) $$ HSLMm; iintro HSLMm
  iapply (ld_ra c _) $$ Hra; iintro Hra
  iapply (ld_out c (rQ (k0_off11 c) (k0_off11_inb c)) (E1 m c) (subset_of_eq (set11 c))) $$ HSLMm; iintro HSLMm
  iapply (st_out c (rQ (k0_off11 c) (k0_off11_inb c)) (set11 c) (E1 m c) (E2 m c) _ (sum3 m c)) $$ HSLMm; iintro HF
  ihave HF := (Entails.of_eq (finished_left m c)) $$ HF
  iapply (wp_send4 m K c [(px c, 16), (px c, 17), (py c, 18)]) $$ [HO HT7 HU15 HF HNLMm]
  · isplitr; · iexact HK
    isplitl [HO]; · iexact HO
    isplitl [HT7]; · iexact HT7
    isplitl [HU15]; · iexact HU15
    isplitl [HF]; · iexact HF
    iexact HNLMm
  iintro ⟨HO, HC7⟩
  iapply (wp_done c)
  iapply Hk
  isplitl [HO]; · iexact HO
  isplitl [HZ5]; · iexact HZ5
  isplitl [HZ13]; · iexact HZ13
  isplitl [Hra]; · iexact Hra
  iexact HC7

/-- The second step's sum over the right half, sent back to the neighbour. -/
theorem part7 (c : Dev nD) (v2 : BitVec 32) (v5 : BitVec 32) (v6 : BitVec 32) {Q : PUnit → sProp 𝕄} :
    iprop(records m K ∗ levAts L lv ∗ O c [(px c, 16), (px c, 17), (py c, 18)] ∗ C c 6 ∗ A c 6 ∗ C c 14 ∗ A c 14 ∗ oP c (RMm c) (D1 m c) ∗ T (c, 8) false ∗ T (px c, 16) false
      ∗ ((O c [(px c, 17), (py c, 18)] ∗ Z c 6 ∗ Z c 14 ∗ rbP c (under (rQ (k0_off13 c) (k0_off13_inb c)) (D1 m (px c))) ∗ C c 8) -∗ Q ⟨⟩))
    ⊢ WP c (k0_part7 (F := F) xM (Memref.isWhole_whole _) oM (Memref.isWhole_whole _) xaM (Memref.isWhole_whole _) xbM (Memref.isWhole_whole _)
        raM (Memref.isWhole_whole _) rbM (Memref.isWhole_whole _) cc0_scratch4 cc0_scratch5 cc0_scratch6 cc0_scratch7 c v2 v5 v6) Q := by
  simp only [k0_part7_eq_skeleton]; unfold k0_part7_skel
  simp only [semSignalWord, semWaitWord, Prog.lift, Prog.bind_op, Prog.bind_ret, Prog.pure_eq_ret, wp_deviceId]
  iintro ⟨#HK, #HL, HO, HC6, HA6, HC14, HA14, HSRMm, HT8, HU16, Hk⟩
  iapply (wp_awaitDma m K c 6 [(px c, 16), (px c, 17), (py c, 18)] send3_eq sizeQ (below rfl)) $$ [HO HC6 HA6]
  · isplitr; · iexact HK
    isplitr; · iexact HL
    isplitl [HO]; · iexact HO
    isplitl [HC6]; · iexact HC6
    iexact HA6
  iintro ⟨HO, HZ6, HP⟩
  iclear HP
  iapply (wp_awaitDma m K c 14 [(px c, 16), (px c, 17), (py c, 18)] recv3_eq sizeQ (below rfl)) $$ [HO HC14 HA14]
  · isplitr; · iexact HK
    isplitr; · iexact HL
    isplitl [HO]; · iexact HO
    isplitl [HC14]; · iexact HC14
    iexact HA14
  iintro ⟨HO, HZ14, HP⟩
  ihave HP := (Entails.of_eq (got14 m c)) $$ HP
  icases HP with ⟨Hrb, HNRMm⟩
  iapply (ld_out c (rQ (k0_off13 c) (k0_off13_inb c)) (D1 m c) (subset_of_eq (set13 c))) $$ HSRMm; iintro HSRMm
  iapply (ld_rb c _) $$ Hrb; iintro Hrb
  iapply (ld_out c (rQ (k0_off13 c) (k0_off13_inb c)) (D1 m c) (subset_of_eq (set13 c))) $$ HSRMm; iintro HSRMm
  iapply (st_out c (rQ (k0_off13 c) (k0_off13_inb c)) (set13 c) (D1 m c) (D2 m c) _ (sum4 m c)) $$ HSRMm; iintro HF
  ihave HF := (Entails.of_eq (finished_right m c)) $$ HF
  iapply (wp_send5 m K c [(px c, 17), (py c, 18)]) $$ [HO HT8 HU16 HF HNRMm]
  · isplitr; · iexact HK
    isplitl [HO]; · iexact HO
    isplitl [HT8]; · iexact HT8
    isplitl [HU16]; · iexact HU16
    isplitl [HF]; · iexact HF
    iexact HNRMm
  iintro ⟨HO, HC8⟩
  iapply (wp_done c)
  iapply Hk
  isplitl [HO]; · iexact HO
  isplitl [HZ6]; · iexact HZ6
  isplitl [HZ14]; · iexact HZ14
  isplitl [Hrb]; · iexact Hrb
  iexact HC8

/-- The left half's finished region put together and sent over the first axis. -/
theorem part8 (c : Dev nD) (v2 : BitVec 32) (v5 : BitVec 32) (v6 : BitVec 32) (v7 : BitVec 32) {Q : PUnit → sProp 𝕄} :
    iprop(records m K ∗ levAts L lv ∗ O c [(px c, 17), (py c, 18)] ∗ C c 7 ∗ A c 7 ∗ C c 15 ∗ A c 15 ∗ C c 1 ∗ A c 1 ∗ T (c, 9) false ∗ T (px c, 17) false ∗ C c 8 ∗ A c 8
      ∗ ((O c [(py c, 18)] ∗ Z c 7 ∗ Z c 15 ∗ Z c 1 ∗ Z c 8 ∗ C c 9 ∗ oP c (RMm c) (total m)) -∗ Q ⟨⟩))
    ⊢ WP c (k0_part8 (F := F) xM (Memref.isWhole_whole _) oM (Memref.isWhole_whole _) xaM (Memref.isWhole_whole _) xbM (Memref.isWhole_whole _)
        raM (Memref.isWhole_whole _) rbM (Memref.isWhole_whole _) cc0_scratch4 cc0_scratch5 cc0_scratch6 cc0_scratch7 c v2 v5 v6 v7) Q := by
  simp only [k0_part8_eq_skeleton]; unfold k0_part8_skel
  simp only [semSignalWord, semWaitWord, Prog.lift, Prog.bind_op, Prog.bind_ret, Prog.pure_eq_ret, wp_deviceId, one_units]
  iintro ⟨#HK, #HL, HO, HC7, HA7, HC15, HA15, HC1, HA1, HT9, HU17, HC8, HA8, Hk⟩
  iapply (wp_awaitDma m K c 7 [(px c, 17), (py c, 18)] send4_eq sizeQ (below rfl)) $$ [HO HC7 HA7]
  · isplitr; · iexact HK
    isplitr; · iexact HL
    isplitl [HO]; · iexact HO
    isplitl [HC7]; · iexact HC7
    iexact HA7
  iintro ⟨HO, HZ7, HP⟩
  ihave HP := (Entails.of_eq (got7 m c)) $$ HP
  icases HP with HFLMm
  iapply (wp_awaitDma m K c 15 [(px c, 17), (py c, 18)] recv4_eq sizeQ (below rfl)) $$ [HO HC15 HA15]
  · isplitr; · iexact HK
    isplitr; · iexact HL
    isplitl [HO]; · iexact HO
    isplitl [HC15]; · iexact HC15
    iexact HA15
  iintro ⟨HO, HZ15, HP⟩
  ihave HP := (Entails.of_eq (got15 m c)) $$ HP
  icases HP with HFLMo
  iapply (wp_awaitSem m K c 1 [(px c, 17), (py c, 18)] cred0_eq 1 rfl (below rfl)) $$ [HO HC1 HA1]
  · isplitr; · iexact HK
    isplitr; · iexact HL
    isplitl [HO]; · iexact HO
    isplitl [HC1]; · iexact HC1
    iexact HA1
  iintro ⟨HO, HZ1, HP⟩
  ihave HP := (Entails.of_eq (got1 m c)) $$ HP
  icases HP with HNLM
  ihave HFLM := (out_LM c c (total m)).2 $$ [HFLMm HFLMo]
  · isplitl [HFLMm]; · iexact HFLMm
    iexact HFLMo
  iapply (wp_send6 m K c [(py c, 18)]) $$ [HO HT9 HU17 HFLM HNLM]
  · isplitr; · iexact HK
    isplitl [HO]; · iexact HO
    isplitl [HT9]; · iexact HT9
    isplitl [HU17]; · iexact HU17
    isplitl [HFLM]; · iexact HFLM
    iexact HNLM
  iintro ⟨HO, HC9⟩
  iapply (wp_awaitDma m K c 8 [(py c, 18)] send5_eq sizeQ (below rfl)) $$ [HO HC8 HA8]
  · isplitr; · iexact HK
    isplitr; · iexact HL
    isplitl [HO]; · iexact HO
    isplitl [HC8]; · iexact HC8
    iexact HA8
  iintro ⟨HO, HZ8, HP⟩
  ihave HP := (Entails.of_eq (got8 m c)) $$ HP
  icases HP with HFRMm
  iapply (wp_done c)
  iapply Hk
  isplitl [HO]; · iexact HO
  isplitl [HZ7]; · iexact HZ7
  isplitl [HZ15]; · iexact HZ15
  isplitl [HZ1]; · iexact HZ1
  isplitl [HZ8]; · iexact HZ8
  isplitl [HC9]; · iexact HC9
  iexact HFRMm

/-- The right half's finished region put together and sent over the second axis; the left half complete. -/
theorem part9 (c : Dev nD) (v2 : BitVec 32) (v5 : BitVec 32) (v6 : BitVec 32) (v7 : BitVec 32) {Q : PUnit → sProp 𝕄} :
    iprop(records m K ∗ levAts L lv ∗ O c [(py c, 18)] ∗ C c 16 ∗ A c 16 ∗ C c 2 ∗ A c 2 ∗ oP c (RMm c) (total m) ∗ T (c, 10) false ∗ T (py c, 18) false ∗ C c 9 ∗ A c 9 ∗ C c 17 ∗ A c 17
      ∗ ((O c [] ∗ Z c 16 ∗ Z c 2 ∗ Z c 9 ∗ Z c 17 ∗ C c 10 ∗ oP c (LM c) (total m) ∗ oP c (LO c) (total m)) -∗ Q ⟨⟩))
    ⊢ WP c (k0_part9 (F := F) xM (Memref.isWhole_whole _) oM (Memref.isWhole_whole _) xaM (Memref.isWhole_whole _) xbM (Memref.isWhole_whole _)
        raM (Memref.isWhole_whole _) rbM (Memref.isWhole_whole _) cc0_scratch4 cc0_scratch5 cc0_scratch6 cc0_scratch7 c v2 v5 v6 v7) Q := by
  simp only [k0_part9_eq_skeleton]; unfold k0_part9_skel
  simp only [semSignalWord, semWaitWord, Prog.lift, Prog.bind_op, Prog.bind_ret, Prog.pure_eq_ret, wp_deviceId, one_units]
  iintro ⟨#HK, #HL, HO, HC16, HA16, HC2, HA2, HFRMm, HT10, HU18, HC9, HA9, HC17, HA17, Hk⟩
  iapply (wp_awaitDma m K c 16 [(py c, 18)] recv5_eq sizeQ (below rfl)) $$ [HO HC16 HA16]
  · isplitr; · iexact HK
    isplitr; · iexact HL
    isplitl [HO]; · iexact HO
    isplitl [HC16]; · iexact HC16
    iexact HA16
  iintro ⟨HO, HZ16, HP⟩
  ihave HP := (Entails.of_eq (got16 m c)) $$ HP
  icases HP with HFRMo
  iapply (wp_awaitSem m K c 2 [(py c, 18)] cred1_eq 1 rfl (below rfl)) $$ [HO HC2 HA2]
  · isplitr; · iexact HK
    isplitr; · iexact HL
    isplitl [HO]; · iexact HO
    isplitl [HC2]; · iexact HC2
    iexact HA2
  iintro ⟨HO, HZ2, HP⟩
  ihave HP := (Entails.of_eq (got2 m c)) $$ HP
  icases HP with HNRM
  ihave HFRM := (out_RM c c (total m)).2 $$ [HFRMm HFRMo]
  · isplitl [HFRMm]; · iexact HFRMm
    iexact HFRMo
  iapply (wp_send7 m K c []) $$ [HO HT10 HU18 HFRM HNRM]
  · isplitr; · iexact HK
    isplitl [HO]; · iexact HO
    isplitl [HT10]; · iexact HT10
    isplitl [HU18]; · iexact HU18
    isplitl [HFRM]; · iexact HFRM
    iexact HNRM
  iintro ⟨HO, HC10⟩
  iapply (wp_awaitDma m K c 9 [] send6_eq sizeL (below rfl)) $$ [HO HC9 HA9]
  · isplitr; · iexact HK
    isplitr; · iexact HL
    isplitl [HO]; · iexact HO
    isplitl [HC9]; · iexact HC9
    iexact HA9
  iintro ⟨HO, HZ9, HP⟩
  ihave HP := (Entails.of_eq (got9 m c)) $$ HP
  icases HP with HFLM
  iapply (wp_awaitDma m K c 17 [] recv6_eq sizeL (below rfl)) $$ [HO HC17 HA17]
  · isplitr; · iexact HK
    isplitr; · iexact HL
    isplitl [HO]; · iexact HO
    isplitl [HC17]; · iexact HC17
    iexact HA17
  iintro ⟨HO, HZ17, HP⟩
  ihave HP := (Entails.of_eq (got17 m c)) $$ HP
  icases HP with HFLO
  iapply (wp_done c)
  iapply Hk
  isplitl [HO]; · iexact HO
  isplitl [HZ16]; · iexact HZ16
  isplitl [HZ2]; · iexact HZ2
  isplitl [HZ9]; · iexact HZ9
  isplitl [HZ17]; · iexact HZ17
  isplitl [HC10]; · iexact HC10
  isplitl [HFLM]; · iexact HFLM
  iexact HFLO

end Cert.AllReduce

end
-- ==== Proof.Body.lean ====
/-
# The kernel's body

The whole body, from a device's share of the launch's ghost state to every element of the result at the sum of the four
blocks; then the same as the pipeline's obligation.
-/
module

public import proofs.«01_k».proof.Proof.Parts

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.RefSig (tileCredit)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 21 → ℕ)

/-! ## What a device starts from and ends with -/

/-- The tokens, twenty-two for each device: token `j` below twenty-one is the first of cell `j`, the last one is the barrier's other. -/
def tokCell (j : Fin 22) : Fin 21 := if h : j.val < 21 then ⟨j.val, h⟩ else 0
def tokFlag (j : Fin 22) : Bool := decide (j.val = 21)
/-- The device that pays the duty of token `j` of `c`, which is also the device whose token `j` device `c` pays. -/
def payer (j : Fin 22) (c : Dev nD) : Dev nD :=
  match j.val with
  | 0 => px c | 1 => px c | 11 => px c | 14 => px c | 16 => px c | 17 => px c
  | 21 => py c | 2 => py c | 12 => py c | 13 => py c | 15 => py c | 18 => py c
  | _ => c

theorem payer_payer : ∀ (j : Fin 22) (c : Dev nD), payer j (payer j c) = c := by decide

/-- A device's positions at its cells, the tokens it pays with, its credits, its cells' counters at zero. -/
def posns (c : Dev nD) : sProp 𝕄 := bigSep Finset.univ fun k : Fin 21 => A c k
def tokens (c : Dev nD) : sProp 𝕄 := bigSep Finset.univ fun j : Fin 22 => T (payer j c, tokCell j) (tokFlag j)
def credits (c : Dev nD) : sProp 𝕄 := iprop(C c 0 ∗ C c 1 ∗ C c 2 ∗ C c 11 ∗ C c 12 ∗ C c 13 ∗ C c 14 ∗ C c 15 ∗ C c 16 ∗ C c 17 ∗ C c 18)
def zeros (c : Dev nD) : sProp 𝕄 := bigSep Finset.univ fun k : Fin 21 => Z c k
/-- Its four scratch buffers. -/
def scratch (c : Dev nD) : sProp 𝕄 := iprop((∃ f, xaP c f) ∗ (∃ f, xbP c f) ∗ (∃ f, raP c f) ∗ (∃ f, rbP c f))

theorem bigSep_cells (Φ : Fin 21 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20) :=
  bigSep_univ_eq_bigSepL [0, 1, 2, 3, 4, 5, 6, 7, 8, 9, 10, 11, 12, 13, 14, 15, 16, 17, 18, 19, 20] (by decide) (by decide) Φ
theorem bigSep_tokens (Φ : Fin 22 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21) :=
  bigSep_univ_eq_bigSepL [0, 1, 2, 3, 4, 5, 6, 7, 8, 9, 10, 11, 12, 13, 14, 15, 16, 17, 18, 19, 20, 21] (by decide) (by decide) Φ

theorem tokens_eq (c : Dev nD) : (tokens c : sProp 𝕄) = iprop(T (px c, 0) false ∗ T (px c, 1) false ∗ T (py c, 2) false ∗ T (c, 3) false ∗ T (c, 4) false ∗ T (c, 5) false ∗ T (c, 6) false ∗ T (c, 7) false ∗ T (c, 8) false ∗ T (c, 9) false ∗ T (c, 10) false ∗ T (px c, 11) false ∗ T (py c, 12) false ∗ T (py c, 13) false ∗ T (px c, 14) false ∗ T (py c, 15) false ∗ T (px c, 16) false ∗ T (px c, 17) false ∗ T (py c, 18) false ∗ T (c, 19) false ∗ T (c, 20) false ∗ T (py c, 0) true) := by
  unfold tokens; rw [bigSep_tokens]; rfl

/-! ## The run -/

set_option maxHeartbeats 1000000 in
/-- The body runs from a device's share of the ghost state, its source and its result's buffer at any contents, to the result
    at the sum of the four blocks, the source unchanged and every cell's counter at zero. -/
theorem run_body (c : Dev nD) {Q : PUnit → sProp 𝕄} :
    iprop(records m K ∗ levAts L lv ∗ O c (dues c) ∗ posns c ∗ tokens c ∗ credits c ∗ xP c Finset.univ (X m c) ∗ scratch c
      ∗ (∃ f, oP c Finset.univ f) ∗ ((O c [] ∗ zeros c ∗ xP c Finset.univ (X m c) ∗ scratch c ∗ oP c Finset.univ (total m)) -∗ Q ⟨⟩))
    ⊢ WP c (cc0_body (F := F) xM (Memref.isWhole_whole _) oM (Memref.isWhole_whole _) xaM (Memref.isWhole_whole _) xbM (Memref.isWhole_whole _)
        raM (Memref.isWhole_whole _) rbM (Memref.isWhole_whole _) cc0_scratch4 cc0_scratch5 cc0_scratch6 cc0_scratch7) Q := by
  simp only [cc0_body_eq_skeleton]; unfold cc0_body_skel
  rw [tokens_eq, show (posns c : sProp 𝕄) = iprop(A c 0 ∗ A c 1 ∗ A c 2 ∗ A c 3 ∗ A c 4 ∗ A c 5 ∗ A c 6 ∗ A c 7 ∗ A c 8 ∗ A c 9 ∗ A c 10 ∗ A c 11 ∗ A c 12 ∗ A c 13 ∗ A c 14 ∗ A c 15 ∗ A c 16 ∗ A c 17 ∗ A c 18 ∗ A c 19 ∗ A c 20) from bigSep_cells _,
    show (zeros c : sProp 𝕄) = iprop(Z c 0 ∗ Z c 1 ∗ Z c 2 ∗ Z c 3 ∗ Z c 4 ∗ Z c 5 ∗ Z c 6 ∗ Z c 7 ∗ Z c 8 ∗ Z c 9 ∗ Z c 10 ∗ Z c 11 ∗ Z c 12 ∗ Z c 13 ∗ Z c 14 ∗ Z c 15 ∗ Z c 16 ∗ Z c 17 ∗ Z c 18 ∗ Z c 19 ∗ Z c 20) from bigSep_cells _]
  unfold credits scratch dues
  iintro ⟨#HK, #HL, HO, ⟨HA0, HA1, HA2, HA3, HA4, HA5, HA6, HA7, HA8, HA9, HA10, HA11, HA12, HA13, HA14, HA15, HA16, HA17, HA18, HA19, HA20⟩, ⟨HU0px, HU1, HU2, HT3, HT4, HT5, HT6, HT7, HT8, HT9, HT10, HU11, HU12, HU13, HU14, HU15, HU16, HU17, HU18, HT19, HT20, HU0py⟩, ⟨HC0, HC1, HC2, HC11, HC12, HC13, HC14, HC15, HC16, HC17, HC18⟩, HX,
    ⟨HxaE, HxbE, HraE, HrbE⟩, ⟨%f, Hout⟩, Hk⟩
  ihave HX := (x_whole c (X m c)).1 $$ HX
  icases HX with ⟨⟨HXLM, HXLO⟩, HXRM, HXRO⟩
  ihave Hout := (out_whole c f).1 $$ Hout
  icases Hout with ⟨⟨HgLM, HgLO⟩, HgRM, HgRO⟩
  ihave HELM := (some_out c (LM c) f) $$ HgLM
  ihave HELO := (some_out c (LO c) f) $$ HgLO
  ihave HERM := (some_out c (RM c) f) $$ HgRM
  ihave HERO := (some_out c (RO c) f) $$ HgRO
  -- part 1
  iapply (wp_seq c)
  iapply (part1 m K c)
  isplitr; · iexact HK
  isplitr; · iexact HL
  isplitl [HO]; · iexact HO
  isplitl [HXLM]; · iexact HXLM
  isplitl [HXRM]; · iexact HXRM
  isplitl [HxaE]; · iexact HxaE
  isplitl [HxbE]; · iexact HxbE
  isplitl [HT19]; · iexact HT19
  isplitl [HT20]; · iexact HT20
  isplitl [HU0px]; · iexact HU0px
  isplitl [HU0py]; · iexact HU0py
  isplitl [HELO]; · iexact HELO
  isplitl [HrbE]; · iexact HrbE
  isplitl [HERO]; · iexact HERO
  isplitl [HraE]; · iexact HraE
  isplitl [HA0]; · iexact HA0
  isplitl [HC0]; · iexact HC0
  iintro %v2 %v5 %v6 %v7 %w ⟨HO, HC19, HC20, HZ0, HNLM, HNrb, HNRM, HNra⟩
  dsimp only
  -- part 2
  iapply (wp_seq c)
  iapply (part2 m K c _ _ _ _ _)
  isplitr; · iexact HK
  isplitr; · iexact HL
  isplitl [HO]; · iexact HO
  isplitl [HXLO]; · iexact HXLO
  isplitl [HNLM]; · iexact HNLM
  isplitl [HT3]; · iexact HT3
  isplitl [HU11]; · iexact HU11
  isplitl [HXRO]; · iexact HXRO
  isplitl [HNRM]; · iexact HNRM
  isplitl [HT4]; · iexact HT4
  isplitl [HU12]; · iexact HU12
  isplitl [HC19]; · iexact HC19
  isplitl [HA19]; · iexact HA19
  iintro ⟨HO, HC3, HC4, HZ19, HXLM, Hxa⟩
  -- part 3
  iapply (wp_seq c)
  iapply (part3 m K c _ _ _)
  isplitr; · iexact HK
  isplitr; · iexact HL
  isplitl [HO]; · iexact HO
  isplitl [HC3]; · iexact HC3
  isplitl [HA3]; · iexact HA3
  isplitl [HC11]; · iexact HC11
  isplitl [HA11]; · iexact HA11
  isplitl [Hxa]; · iexact Hxa
  isplitl [HELM]; · iexact HELM
  isplitl [HU1]; · iexact HU1
  iintro %r ⟨HO, HZ3, HZ11, HXLO, HSLM, Hxa⟩
  obtain ⟨v88, w'⟩ := r
  dsimp only
  -- part 4
  iapply (wp_seq c)
  iapply (part4 m K c _ _ _ _ _)
  isplitr; · iexact HK
  isplitr; · iexact HL
  isplitl [HO]; · iexact HO
  isplitl [HSLM]; · iexact HSLM
  isplitl [HNra]; · iexact HNra
  isplitl [HT5]; · iexact HT5
  isplitl [HU13]; · iexact HU13
  isplitl [HC20]; · iexact HC20
  isplitl [HA20]; · iexact HA20
  isplitl [HC4]; · iexact HC4
  isplitl [HA4]; · iexact HA4
  isplitl [HC12]; · iexact HC12
  isplitl [HA12]; · iexact HA12
  isplitl [HERM]; · iexact HERM
  iintro ⟨HO, HC5, HZ20, HZ4, HZ12, HXRM, HXRO, Hxb, HERO, HSRM, HSLMm⟩
  -- part 5
  iapply (wp_seq c)
  iapply (part5 m K c _ _ _ _)
  isplitr; · iexact HK
  isplitr; · iexact HL
  isplitl [HO]; · iexact HO
  isplitl [HERO]; · iexact HERO
  isplitl [HU2]; · iexact HU2
  isplitl [HSRM]; · iexact HSRM
  isplitl [HNrb]; · iexact HNrb
  isplitl [HT6]; · iexact HT6
  isplitl [HU14]; · iexact HU14
  iintro ⟨HO, HC6, HSRMm⟩
  -- part 6
  iapply (wp_seq c)
  iapply (part6 m K c _ _ _)
  isplitr; · iexact HK
  isplitr; · iexact HL
  isplitl [HO]; · iexact HO
  isplitl [HC5]; · iexact HC5
  isplitl [HA5]; · iexact HA5
  isplitl [HC13]; · iexact HC13
  isplitl [HA13]; · iexact HA13
  isplitl [HSLMm]; · iexact HSLMm
  isplitl [HT7]; · iexact HT7
  isplitl [HU15]; · iexact HU15
  iintro ⟨HO, HZ5, HZ13, Hra, HC7⟩
  -- part 7
  iapply (wp_seq c)
  iapply (part7 m K c _ _ _)
  isplitr; · iexact HK
  isplitr; · iexact HL
  isplitl [HO]; · iexact HO
  isplitl [HC6]; · iexact HC6
  isplitl [HA6]; · iexact HA6
  isplitl [HC14]; · iexact HC14
  isplitl [HA14]; · iexact HA14
  isplitl [HSRMm]; · iexact HSRMm
  isplitl [HT8]; · iexact HT8
  isplitl [HU16]; · iexact HU16
  iintro ⟨HO, HZ6, HZ14, Hrb, HC8⟩
  -- part 8
  iapply (wp_seq c)
  iapply (part8 m K c _ _ _ _)
  isplitr; · iexact HK
  isplitr; · iexact HL
  isplitl [HO]; · iexact HO
  isplitl [HC7]; · iexact HC7
  isplitl [HA7]; · iexact HA7
  isplitl [HC15]; · iexact HC15
  isplitl [HA15]; · iexact HA15
  isplitl [HC1]; · iexact HC1
  isplitl [HA1]; · iexact HA1
  isplitl [HT9]; · iexact HT9
  isplitl [HU17]; · iexact HU17
  isplitl [HC8]; · iexact HC8
  isplitl [HA8]; · iexact HA8
  iintro ⟨HO, HZ7, HZ15, HZ1, HZ8, HC9, HFRMm⟩
  -- part 9
  iapply (wp_seq c)
  iapply (part9 m K c _ _ _ _)
  isplitr; · iexact HK
  isplitr; · iexact HL
  isplitl [HO]; · iexact HO
  isplitl [HC16]; · iexact HC16
  isplitl [HA16]; · iexact HA16
  isplitl [HC2]; · iexact HC2
  isplitl [HA2]; · iexact HA2
  isplitl [HFRMm]; · iexact HFRMm
  isplitl [HT10]; · iexact HT10
  isplitl [HU18]; · iexact HU18
  isplitl [HC9]; · iexact HC9
  isplitl [HA9]; · iexact HA9
  isplitl [HC17]; · iexact HC17
  isplitl [HA17]; · iexact HA17
  iintro ⟨HO, HZ16, HZ2, HZ9, HZ17, HC10, HFLM, HFLO⟩
  -- the tail
  simp only [Prog.lift, Prog.bind_op, Prog.bind_ret, Prog.pure_eq_ret]
  iapply (wp_awaitDma m K c 10 [] send7_eq sizeR (below rfl)) $$ [HO HC10 HA10]
  · isplitr; · iexact HK
    isplitr; · iexact HL
    isplitl [HO]; · iexact HO
    isplitl [HC10]; · iexact HC10
    iexact HA10
  iintro ⟨HO, HZ10, HP⟩
  ihave HP := (Entails.of_eq (got10 m c)) $$ HP
  icases HP with HFRM
  iapply (wp_awaitDma m K c 18 [] recv7_eq sizeR (below rfl)) $$ [HO HC18 HA18]
  · isplitr; · iexact HK
    isplitr; · iexact HL
    isplitl [HO]; · iexact HO
    isplitl [HC18]; · iexact HC18
    iexact HA18
  iintro ⟨HO, HZ18, HP⟩
  ihave HP := (Entails.of_eq (got18 m c)) $$ HP
  icases HP with HFRO
  iapply (wp_done c)
  iapply Hk
  isplitl [HO]; · iexact HO
  isplitl [HZ0 HZ1 HZ2 HZ3 HZ4 HZ5 HZ6 HZ7 HZ8 HZ9 HZ10 HZ11 HZ12 HZ13 HZ14 HZ15 HZ16 HZ17 HZ18 HZ19 HZ20]
  · isplitl [HZ0]; · iexact HZ0
    isplitl [HZ1]; · iexact HZ1
    isplitl [HZ2]; · iexact HZ2
    isplitl [HZ3]; · iexact HZ3
    isplitl [HZ4]; · iexact HZ4
    isplitl [HZ5]; · iexact HZ5
    isplitl [HZ6]; · iexact HZ6
    isplitl [HZ7]; · iexact HZ7
    isplitl [HZ8]; · iexact HZ8
    isplitl [HZ9]; · iexact HZ9
    isplitl [HZ10]; · iexact HZ10
    isplitl [HZ11]; · iexact HZ11
    isplitl [HZ12]; · iexact HZ12
    isplitl [HZ13]; · iexact HZ13
    isplitl [HZ14]; · iexact HZ14
    isplitl [HZ15]; · iexact HZ15
    isplitl [HZ16]; · iexact HZ16
    isplitl [HZ17]; · iexact HZ17
    isplitl [HZ18]; · iexact HZ18
    isplitl [HZ19]; · iexact HZ19
    iexact HZ20
  isplitl [HXLM HXLO HXRM HXRO]
  · iapply (x_whole c (X m c)).2
    isplitl [HXLM HXLO]
    · isplitl [HXLM] <;> iassumption
    · isplitl [HXRM] <;> iassumption
  isplitl [Hxa Hxb Hra Hrb]
  · isplitl [Hxa]; · iexists _; iexact Hxa
    isplitl [Hxb]; · iexists _; iexact Hxb
    isplitl [Hra]; · iexists _; iexact Hra
    iexists _; iexact Hrb
  iapply (out_whole c (total m)).2
  isplitl [HFLM HFLO]
  · isplitl [HFLM] <;> iassumption
  · isplitl [HFRM] <;> iassumption

/-! ## The pipeline's proof data and its obligation -/

variable (ρ : Dev nD → PrngReg)

/-- The memory at launch: any contents, every semaphore's counter zero, any generator registers. -/
def s₀ : MemSt nD τ sig (Elt F) := ⟨m, fun _ => 0, ρ⟩

/-- A device's part of the ghost state; -/
def ghost (c : Dev nD) : sProp 𝕄 := iprop(∃ K, records m K ∗ posns c ∗ tokens c)
/-- what its body starts from besides the scratch buffers. -/
def start (c : Dev nD) : sProp 𝕄 := iprop(ghost m c ∗ credits c ∗ levAts L lv ∗ xP c Finset.univ (X m c))

def Φ₀ (c : Dev nD) : sProp 𝕄 := iprop(start m c ∗ scratch c)
def Φ₁ (c : Dev nD) : sProp 𝕄 := iprop(zeros c ∗ xP c Finset.univ (X m c) ∗ scratch c)

/-- The one window is the result's: after the body it holds the sum of the four blocks. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => total m
  Φ t := match t with
    | ⟨0, _⟩ => Φ₀ m c
    | ⟨_ + 1, _⟩ => Φ₁ m c
  q _ := fullShare
  owed t := match t with
    | ⟨0, _⟩ => owedOf (dues c)
    | ⟨_ + 1, _⟩ => 0

/-- A buffer owned whole is its elements at what it holds. -/
theorem owns_whole_eq (c : Dev nD) (b : Ref sig .tc) (V : b.ty.Contents (Elt F)) :
    (owns (Ix := Unit) (Name := ℕ) (U := UU) (Lvl := ℕ) (c : Thread nD τ) (Memref.whole b) fullShare V : sProp 𝕄)
      = iprop(∃ f : Buf (Elt F) (((c : Dev nD) : Thread nD τ).loc b), ⌜f = V⌝ ∗ (((c : Thread nD τ).loc b) ↦{fullShare} f)) := by
  unfold owns; simp only [Memref.view_whole, View.read_whole, View.set_whole]

abbrev stg (c : Dev nD) (V : Blk F) : sProp 𝕄 :=
  iprop(∃ f : Buf (Elt F) (((c : Dev nD) : Thread nD τ).loc cc0_stg0_0), ⌜f = V⌝ ∗ (((c : Thread nD τ).loc cc0_stg0_0) ↦{fullShare} f))

def bodyPre (c : Dev nD) : sProp 𝕄 :=
  iprop(Φ₀ m c ∗ (dats m ρ 0 c).owesAt () (t0_0 : Fin cfg0.N).castSucc ∗ (∃ d, stg c ((dats m ρ 0 c).before (0 : Fin 1) t0_0 d)))
def bodyPost (c : Dev nD) : sProp 𝕄 :=
  iprop(Φ₁ m c ∗ (dats m ρ 0 c).owesAt () (t0_0 : Fin cfg0.N).succ ∗ stg c (total m))

theorem sound_body (c : Dev nD) :
    bodyPre m ρ c ⊢ WP c (cc0_body (F := F) xM (Memref.isWhole_whole _) oM (Memref.isWhole_whole _) xaM (Memref.isWhole_whole _) xbM (Memref.isWhole_whole _)
        raM (Memref.isWhole_whole _) rbM (Memref.isWhole_whole _) cc0_scratch4 cc0_scratch5 cc0_scratch6 cc0_scratch7) (fun _ => bodyPost m ρ c) := by
  unfold bodyPre Φ₀ start ghost Dat.owesAt Pipeline.owesWithin
  rw [show (dats m ρ 0 c).owed (t0_0 : Fin cfg0.N).castSucc = owedOf (dues c) from rfl]
  iintro ⟨⟨⟨⟨%K, #HK, HA, HT⟩, HC, #HL, HX⟩, HS⟩, ⟨%W, %hW, HO⟩, ⟨%d, %g, %hg, Hout⟩⟩
  iapply (run_body m K c)
  isplitr; · iexact HK
  isplitr; · iexact HL
  isplitl [HO]; · unfold O; iexists W; iexact HO
  isplitl [HA]; · iexact HA
  isplitl [HT]; · iexact HT
  isplitl [HC]; · iexact HC
  isplitl [HX]; · iexact HX
  isplitl [HS]; · iexact HS
  isplitl [Hout]; · iexists g; iexact Hout
  unfold O
  iintro ⟨⟨%W', HO⟩, HZ, HX, HS, Hout⟩
  unfold bodyPost Φ₁ Dat.owesAt Pipeline.owesWithin
  rw [show (dats m ρ 0 c).owed (t0_0 : Fin cfg0.N).succ = owedOf [] from rfl]
  isplitl [HZ HX HS]
  · isplitl [HZ]; · iexact HZ
    isplitl [HX] <;> iassumption
  isplitl [HO]
  · iexists W'
    isplitr; · ipureintro; exact fun _ _ => Or.inl trivial
    iexact HO
  iexists (total m)
  isplitr; · (ipureintro; rfl)
  iexact Hout

set_option maxRecDepth 4000 in
/-- The pipeline's obligation for a device's body. -/
theorem body_obligation (c : Dev nD) : BodyObligation (dats (F := F) m ρ 0 c) (defs₀ (F := F)) 𝒱₀ () Set.univ := fun t => by
  rw [show t = (t0_0 : Fin cfg0.N) from fin_N0 t]
  rw [bigSep_W0, bigSep_W0]
  simp only [owns_whole_eq]
  exact sound_body m ρ c

end Cert.AllReduce

end
-- ==== Proof.Launch.lean ====
/-
# The launch

The launch's ghost state: every cell of every device at its round, its positions and tokens dealt to the devices that use
them, and each device's credits read off what the devices owe. From it, at any float values, the run of the whole program.
-/
module

public import proofs.«01_k».proof.Proof.Body
public import proofs.«01_k».proof.Proof.Gen.KernelIdeal.Points
public import Idealize.ShloMosaic.Lib.Pipeline.CollectiveSegs

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and tokens of the launch -/

/-- The kernel's own semaphores: every cell but the barrier's. -/
def osem : Fin 20 → SemLoc sig := fun k => csem k.succ

theorem ownSemFacts : Pipeline.OwnSemFacts cfg0.spec osem := by decide

theorem share_eq (c : Dev nD) (w : Fin cfg0.W) : (dats m ρ 0 c).share w = fullShare := by unfold Dat.share; split <;> rfl

/-- Every cell of every device; -/
def allCells : Finset (GSem nD τ sig) := Finset.univ.map ⟨kcell, fun _ _ h => kcell_inj h⟩

theorem tok_inj : ∀ j j' : Fin 22, tokCell j = tokCell j' → tokFlag j = tokFlag j' → j = j' := by decide

/-- the name of a device's token; -/
def tokOf (cj : Dev nD × Fin 22) : GSem nD τ sig × ℕ × Bool := (kcell (cj.1, tokCell cj.2), 0, tokFlag cj.2)

theorem tokOf_inj : Function.Injective tokOf := by
  rintro ⟨c, j⟩ ⟨c', j'⟩ h
  have h1 := kcell_inj (congrArg (fun x : GSem nD τ sig × ℕ × Bool => x.1) h)
  have h2 : tokFlag j = tokFlag j' := congrArg (fun x : GSem nD τ sig × ℕ × Bool => x.2.2) h
  have h3 : c = c' := congrArg Prod.fst h1
  have h4 : j = j' := tok_inj j j' (congrArg Prod.snd h1) h2
  rw [h3, h4]

/-- and every token of every device. -/
def allToks : Finset (GSem nD τ sig × ℕ × Bool) := Finset.univ.map ⟨tokOf, tokOf_inj⟩

/-- The ghost state the run starts with: the pipeline's and the protocol's. -/
def u₀ : UU := (initOf (Pipeline.cells cfgs cellOf_inj) (Pipeline.launchToks cfgs cellOf_inj), initOf allCells allToks)

/-- The tokens of a device's own cells. -/
def ownToks (c : Dev nD) : sProp 𝕄 := bigSep Finset.univ fun j : Fin 22 => T (c, tokCell j) (tokFlag j)

/-- What the start deals a device: its cells' states, its positions, that its cells have reached their round, and its cells' tokens. -/
def G (c : Dev nD) : sProp 𝕄 :=
  iprop((bigSep Finset.univ fun k : Fin 21 => roundState ER (sch m) (kcell (c, k)) 0)
    ∗ (posns c ∗ bigSep Finset.univ fun k : Fin 21 => reached ER (kcell (c, k)) 0) ∗ ownToks c)

theorem over_cells (Φ : GSem nD τ sig → sProp 𝕄) :
    bigSep allCells Φ = bigSep Finset.univ fun c : Dev nD => bigSep Finset.univ fun k : Fin 21 => Φ (kcell (c, k)) := by
  unfold allCells; rw [bigSep_map, bigSep_univ_prod]; rfl

theorem over_toks : bigSep allToks (fun x => (dutyTok ER x.1 x.2.1 x.2.2 : sProp 𝕄)) = bigSep Finset.univ fun c : Dev nD => ownToks c := by
  unfold allToks; rw [bigSep_map, bigSep_univ_prod]; rfl

/-- The protocol's starting element yields every device's part. -/
theorem fund : BI.own (ER (initOf allCells allToks)) ⊢ (|==> bigSep Finset.univ (G m) : sProp 𝕄) := by
  iintro HX
  imod (Rounds.fund ER (sch m) allCells allToks) $$ HX with ⟨Hst, Hr, Hat, Htok⟩
  imodintro
  ihave Hst := (Entails.of_eq (over_cells fun g => roundState ER (sch m) g 0)) $$ Hst
  ihave Hat := (Entails.of_eq (over_cells (F := F) fun g => atPos ER g 0 ∅ 0)) $$ Hat
  ihave Hr := (Entails.of_eq (over_cells (F := F) fun g => reached ER g 0)) $$ Hr
  ihave Htok := (Entails.of_eq (over_toks (F := F))) $$ Htok
  unfold G posns; simp only [bigSep_sep']
  isplitl [Hst]; · iexact Hst
  isplitl [Hat Hr]
  · isplitl [Hat] <;> iassumption
  iexact Htok

/-! ## The counters -/

theorem ownSems0_eq (c : Dev nD) : (Pipeline.ownSems0 (Ix := Unit) (Name := ℕ) (U := UU) (Lvl := ℕ) (Val := Elt F) (τ := τ) osem c : sProp 𝕄)
    = iprop(Z c 1 ∗ Z c 2 ∗ Z c 3 ∗ Z c 4 ∗ Z c 5 ∗ Z c 6 ∗ Z c 7 ∗ Z c 8 ∗ Z c 9 ∗ Z c 10 ∗ Z c 11 ∗ Z c 12 ∗ Z c 13 ∗ Z c 14 ∗ Z c 15 ∗ Z c 16 ∗ Z c 17 ∗ Z c 18
        ∗ Z c 19 ∗ Z c 20) := by
  rw [Pipeline.ownSems0_eq_of_list c osem [0, 1, 2, 3, 4, 5, 6, 7, 8, 9, 10, 11, 12, 13, 14, 15, 16, 17, 18, 19] (by decide) (by decide)]; rfl

theorem unscopedSems0_eq (c : Dev nD) : (unscopedSems0 c : sProp 𝕄) = Z c 0 := by
  unfold unscopedSems0; rw [bigSep_eq_bigSepL_of_eq [SemLoc.reg barS] (by decide) (by decide)]; rfl

/-- The counters of a device's cells are the barrier's and the kernel's own. -/
theorem zeros_eq (c : Dev nD) : (zeros c : sProp 𝕄)
    = iprop(unscopedSems0 c ∗ Pipeline.ownSems0 (Ix := Unit) (Name := ℕ) (U := UU) (Lvl := ℕ) (Val := Elt F) (τ := τ) osem c) := by
  rw [ownSems0_eq, unscopedSems0_eq]; unfold zeros; rw [bigSep_cells]

/-! ## The invariants, and what each device gets -/

/-- Counters at zero and cells at their start make a device's invariants. -/
theorem make_invs (c : Dev nD) :
    iprop(zeros c ∗ bigSep Finset.univ fun k : Fin 21 => roundState ER (sch m) (kcell (c, k)) 0)
      ⊢ (|={Set.univ}=> bigSep Finset.univ fun k => iprop(∃ κ : ℕ, cellInv ER (sch m) κ (kcell (c, k))) : sProp 𝕄) := by
  unfold zeros
  rw [← bigSep_sep']
  exact (bigSep_mono fun k _ => (Rounds.body_intro ER (sch m) (kcell (c, k))).trans inv_alloc).trans (bigSep_fupd _ _)

theorem device_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sch m) κ (kcell (c, k))))
          ∗ (posns c ∗ bigSep Finset.univ fun k : Fin 21 => reached ER (kcell (c, k)) 0) ∗ ownToks c) := by
  unfold G
  iintro ⟨Hos, Hus, Hst, Hat, Htok⟩
  ihave Hz := (Entails.of_eq (zeros_eq (F := F) c).symm) $$ [Hos Hus]
  · isplitl [Hus] <;> iassumption
  imod (make_invs m c) $$ [Hz Hst] with Hinv
  · isplitl [Hz] <;> iassumption
  imodintro
  isplitl [Hinv]; · iexact Hinv
  isplitl [Hat]; · iexact Hat
  iexact Htok

/-- The involution that sends a device to the one that pays its token `j`. -/
def payerEquiv (j : Fin 22) : Dev nD ≃ Dev nD := ⟨payer j, payer j, payer_payer j, payer_payer j⟩

/-- The tokens of the devices' own cells are those the devices pay with. -/
theorem deal : (bigSep Finset.univ fun c : Dev nD => (ownToks c : sProp 𝕄)) = bigSep Finset.univ fun c : Dev nD => tokens c := by
  unfold ownToks tokens
  rw [bigSep_univ_comm, bigSep_univ_comm (fun (c : Dev nD) (j : Fin 22) => (T (payer j c, tokCell j) (tokFlag j) : sProp 𝕄))]
  exact bigSep_congr fun j _ => bigSep_univ_equiv (payerEquiv j) fun c : Dev nD => (T (c, tokCell j) (tokFlag j) : sProp 𝕄)

theorem ghost_intro (K : Dev nD × Fin 21 → ℕ) (c : Dev nD) : iprop(records m K ∗ posns c ∗ tokens c) ⊢ ghost m c := by
  unfold ghost
  iintro H
  iexists K; iexact H

theorem regroup :
    (bigSep Finset.univ fun c : Dev nD => iprop((bigSep Finset.univ fun k => iprop(∃ κ : ℕ, cellInv ER (sch m) κ (kcell (c, k))))
          ∗ (posns c ∗ bigSep Finset.univ fun k : Fin 21 => reached ER (kcell (c, k)) 0) ∗ ownToks c) : sProp 𝕄)
      ⊢ bigSep Finset.univ (ghost m) := by
  rw [bigSep_sep', bigSep_sep', bigSep_sep', deal, ← bigSep_univ_prod (fun ck : Dev nD × Fin 21 => iprop(∃ κ : ℕ, cellInv ER (sch m) κ (kcell ck))),
    ← bigSep_univ_prod (fun ck : Dev nD × Fin 21 => (reached ER (kcell ck) 0 : sProp 𝕄))]
  iintro ⟨HI, ⟨Hat, #HR⟩, Htok⟩
  ihave HK := (BI.bigSep_exists_pi Finset.univ (fun (ck : Dev nD × Fin 21) (κ : ℕ) => (cellInv ER (sch m) κ (kcell ck) : sProp 𝕄))) $$ HI
  icases HK with ⟨%K, #HI⟩
  iapply (BI.bigSep_with_persistent (R := records m K) fun c _ => ghost_intro m K c)
  isplitr
  · unfold records; isplitl; · iexact HI
    iexact HR
  · iapply (Entails.of_eq (bigSep_sep' Finset.univ (fun c : Dev nD => (posns c : sProp 𝕄)) tokens).symm)
    isplitl [Hat]; · iexact Hat
    iexact Htok

/-- From every device's counters and its part of the start, every device's part of the ghost state. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (ghost m) :=
  ((bigSep_mono fun c _ => device_alloc m c).trans (bigSep_fupd _ _)).trans (BI.fupd_mono (regroup m))

/-! ## The credits -/

/-- What a device owes at the start. -/
def owed₀ (c : Dev nD) : CellTallies nD τ sig Unit := owedOf (dues c)

/-- The units a list of duties adds to a cell. -/
def count (l : List (Dev nD × Fin 21)) (q : Dev nD × Fin 21) : ℕ := (l.map fun p => if q = p then amt p.2 else 0).sum

theorem owedOf_count (l : List (Dev nD × Fin 21)) (q : Dev nD × Fin 21) : owedOf l (kcell q) () = count l q := by
  induction l with
  | nil => rfl
  | cons p l ih =>
    unfold owedOf
    rw [Pi.add_apply, Finsupp.add_apply, tallyAt_apply, ih, Nat.add_comm]
    show _ = (if q = p then amt p.2 else 0) + count l q
    congr 1
    by_cases h : q = p
    · rw [if_pos ⟨congrArg kcell h, rfl⟩, if_pos h]
    · rw [if_neg fun h' => h (kcell_inj h'.1), if_neg h]

/-- The cells whose duties other devices pay. -/
def paidCells : List (Fin 21) := [0, 1, 2, 11, 12, 13, 14, 15, 16, 17, 18]

/-- Together the devices owe each of those cells its whole round. -/
theorem count_whole : ∀ k ∈ paidCells, ∀ c : Dev nD, (∑ d : Dev nD, count (dues d) (c, k)) = whole k := by decide +kernel

theorem launch_cell (c : Dev nD) (k : Fin 21) (hk : k ∈ paidCells) :
    tallyOn (kcell (c, k)) (launchCredit (Pipeline.owing owed₀) 0 (kcell (c, k))) = (tallyAt (kcell (c, k)) () (whole k) : CellTallies nD τ sig Unit) := by
  unfold tallyAt; refine congrArg _ (Finsupp.ext fun u => ?_); cases u
  rw [Pipeline.launchCredit_owing, Finsupp.single_eq_same, ← count_whole k hk c]
  exact Finset.sum_congr rfl fun d _ => owedOf_count (dues d) (c, k)

/-- A device's launch credit holds a credit for the whole round of each of those cells. -/
theorem creds (c : Dev nD) : (Pipeline.launchCred owed₀ c : sProp 𝕄) ⊢ credits c := by
  have h : (Pipeline.launchCred owed₀ c : sProp 𝕄) ⊢ bigSep paidCells.toFinset fun k => C c k := by
    unfold Pipeline.launchCred
    refine (bigSep_subset (Finset.subset_univ (paidCells.toFinset.map ⟨csem, fun _ _ => csem_inj _ _⟩))).trans ?_
    rw [bigSep_map]
    exact bigSep_mono fun k hk => Entails.of_eq (congrArg cred (launch_cell c k (List.mem_toFinset.mp hk)))
  refine h.trans (Entails.of_eq ?_)
  rw [bigSep_eq_bigSepL_of_eq paidCells rfl (by decide)]; rfl

/-! ## The conditions of the run -/

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ ghost m c)
      ⊢ |={Set.univ}=> iprop(start m c ∗ emp) := by
  rw [Pipeline.unscopedRestP_none, unscopedRest0_eq]
  iintro ⟨HX, Hlev, Hcr, -, HG⟩
  ihave Hc := (creds (F := F) c) $$ Hcr
  imodintro
  unfold start
  isplitl
  · isplitl [HG]; · iexact HG
    isplitl [Hc]; · iexact Hc
    isplitl [Hlev]; · iexact Hlev
    iexact HX
  · iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

/-- What a device's body leaves besides the kernel's own semaphores and buffers: the barrier's counter and the source. -/
def left (c : Dev nD) : sProp 𝕄 := iprop(unscopedSems0 c ∗ xP c Finset.univ (X m c))

theorem leave (c : Dev nD) :
    (dats m ρ 0 c).Φ (Fin.last cfg0.N) ⊢ iprop(left m c ∗ Pipeline.ownSems0 osem c ∗ Pipeline.scopedRest cfg0.spec c) := by
  rw [show (dats m ρ 0 c).Φ (Fin.last cfg0.N) = Φ₁ m c from rfl, scopedRest0_eq]
  unfold Φ₁ scratch left
  rw [zeros_eq]
  iintro ⟨⟨HzB, Hz⟩, HX, Hr⟩
  isplitl [HzB HX]
  · isplitl [HzB] <;> iassumption
  isplitl [Hz]; · iexact Hz
  iexact Hr

/-- The pipeline may wait on its staging semaphore: every cell a device owes is above it. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ (dues c) (by fin_cases w; fin_cases s; revert c; decide)
    · exact mayWait c _ [] (fun p hp => absurd hp List.not_mem_nil)

/-! ## The run -/

/-- The result's one block is the whole array, so it ends at what the body left. -/
theorem final_eq (c : Dev nD) : (dats m ρ 0 c).arrAt (0 : Fin 1) cfg0.N = total m := by
  have h : (win0_0.blk (0 : Fin 1)).view.read (Elt F) ((dats m ρ 0 c).arrAt (0 : Fin 1) cfg0.N) = total m := by
    rw [show cfg0.N = ((0 : Fin 1) : Fin cfg0.N).val + 1 from rfl, (dats m ρ 0 c).arrAt_succ (0 : Fin 1) (0 : Fin 1)]
    rw [if_pos (flush0_0 (0 : Fin 1))]
    exact View.read_write_univ _ _
  have hz : (fun a => (win0_0.index (0 : Fin 1)) a * main_v1.ty.shape.size a) = fun _ => 0 :=
    funext fun a => by fin_cases a <;> decide
  have hr := fun f => Memref.read_access_unit_zero (Elt F) main_v1 hz (fun a => by fin_cases a <;> decide) f
  rw [← h]
  exact (hr _).symm

/-- The source is read off the final memory. -/
theorem read_source (c : Dev nD) (s' : Phys nD τ sig (Elt F)) :
    iprop(xP c Finset.univ (X m c) ∗ SI s') ⊢ (iprop(⌜s'.mem.mem ((c : Thread nD τ).loc main_arg0) = X m c⌝ ∗ SI s') : sProp 𝕄) := by
  iintro ⟨Hx, HSI⟩
  icombine HSI Hx gives %h
  isplitr; · (ipureintro; exact Buf.eq_of_forall_mem_univ h)
  iexact HSI

theorem read_left (c : Dev nD) (s' : Phys nD τ sig (Elt F)) :
    iprop(left m c ∗ emp ∗ SI s') ⊢ (|={Set.univ}=> iprop(⌜s'.mem.mem ((c : Thread nD τ).loc main_arg0) = X m c
      ∧ ∀ sm : SemLoc sig, sm.isScoped .tc = false → s'.mem.sem ((c.tc : Thread nD τ), sm) = 0⌝ ∗ SI s') : sProp 𝕄) := by
  unfold left
  iintro ⟨⟨Hu, Hx⟩, -, HSI⟩
  ihave H := (read_source m c s') $$ [Hx HSI]
  · isplitl [Hx] <;> iassumption
  icases H with ⟨%hx, HSI⟩
  imod (Pipeline.unscopedSems0_read (X := unscopedSems0 c) (c := c) fupd_intro s') $$ [Hu HSI] with ⟨%hs, HSI⟩
  · isplitl [Hu] <;> iassumption
  imodintro
  isplitr; · (ipureintro; exact ⟨hx, hs⟩)
  iexact HSI

set_option maxRecDepth 8000 in
/-- For any float values, from any memory with zero counters, every weakly fair execution of the four devices ends; then
    every device's result is the sum of the four blocks, its source is unchanged and every counter is at zero. -/
theorem run_main : θ_run defs (onTc (τ := τ) (main (F := F))) ⟨m, fun _ => 0, ρ⟩ (fun r =>
    (∀ c : Dev nD, r.2.mem ((c : Thread nD τ).loc main_v1) = total m ∧ r.2.mem ((c : Thread nD τ).loc main_arg0) = X m c) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := G m) (G' := ghost m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := enter m ρ) (hout := leave m ρ)
    (QY := fun c s => s.mem ((c : Thread nD τ).loc main_arg0) = X m c ∧ ∀ sm : SemLoc sig, sm.isScoped .tc = false → s.sem ((c.tc : Thread nD τ), sm) = 0)
    (hY := fun c s' => read_left m c s')
    (hQ := fun _ h hs => ⟨fun c => ⟨((h c).1 0).trans (final_eq m ρ c), (h c).2.2.1⟩, sem_eq_zero hs fun c => (h c).2.2.2⟩)

end Cert.AllReduce

end
-- ==== Proof.Value.lean ====
/-
# The value

At the ideal float values both programs compute, at each place of a block, the sum of the four blocks' elements there: the
kernel in whichever order the place's half of the columns asks for, the reference as one sum over the block coordinates.
-/
module

public import proofs.«01_k».proof.Proof.Protocol
public import proofs.«01_k».proof.Proof.Gen.ReferenceIdeal
public import Idealize.ShloMosaic.Lib.Layout
public import Idealize.ShloMosaic.Lib.Pointwise.Reduce
public import Idealize.ShloMosaic.Lib.Pipeline.Value

@[expose] public section

noncomputable section

namespace Cert.AllReduce

open Cert.KernelIdeal
open Idealize.ShloMosaic
open Idealize.ShloMosaic.TcCoe

/-! ## The four blocks -/

/-- A device, its two neighbours and the device across from it are the four devices, the first axis taken first; -/
theorem four_xy (f : Dev nD → EReal) (c : Dev nD) :
    (f c + f (px c)) + (f (py c) + f (px (py c))) = f (0 : Fin 4) + f (1 : Fin 4) + f (2 : Fin 4) + f (3 : Fin 4) := by
  revert c
  intro (c : Fin 4)
  fin_cases c
  · show (f (0 : Fin 4) + f (2 : Fin 4)) + (f (1 : Fin 4) + f (3 : Fin 4)) = _; ac_rfl
  · show (f (1 : Fin 4) + f (3 : Fin 4)) + (f (0 : Fin 4) + f (2 : Fin 4)) = _; ac_rfl
  · show (f (2 : Fin 4) + f (0 : Fin 4)) + (f (3 : Fin 4) + f (1 : Fin 4)) = _; ac_rfl
  · show (f (3 : Fin 4) + f (1 : Fin 4)) + (f (2 : Fin 4) + f (0 : Fin 4)) = _; ac_rfl

/-- the second axis first. -/
theorem four_yx (f : Dev nD → EReal) (c : Dev nD) :
    (f c + f (py c)) + (f (px c) + f (py (px c))) = f (0 : Fin 4) + f (1 : Fin 4) + f (2 : Fin 4) + f (3 : Fin 4) := by
  rw [← px_py, ← four_xy f c]; ac_rfl

/-- Whichever order a place's sum is taken in, it is the sum of the four blocks there. -/
theorem total_apply (m : (ℓ : Loc nD τ sig) → Buf (Elt Ideal) ℓ) (i : I2) :
    total m i = (X m (0 : Fin 4) i + X m (1 : Fin 4) i + X m (2 : Fin 4) i + X m (3 : Fin 4) i : EReal) := by
  unfold total
  split
  · exact four_xy (fun c => X m c i) (own i)
  · exact four_yx (fun c => X m c i) (own i)

/-! ## The reference's sum -/

section Sum

/-- A sum over the indices that drop to `j`, when a family names each of them once, is the sum over the family. -/
theorem sum_fiber {s t : Shape} {axes : List (Fin s.rank)} {κ : Type} [Fintype κ] (h : s.ReducesTo axes t) (v : s.Idx → EReal) (z : EReal) (j : t.Idx)
    (g : κ → s.Idx) (hg : Function.Injective g) (hp : ∀ i, h.drop i = j ↔ ∃ k, g k = i) : Ideal.hostReduceAdd h v z j = z + ∑ k, v (g k) :=
  congrArg (z + ·) (Finset.sum_filter_eq_sum_of_fiber _ g hg hp v)

variable {a b r l : Nat}

/-- Summing over the first and third of four axes: the indices that drop to `j` are `j`'s coordinates between any two others. -/
theorem drop_iff (h : (⟨4, ![a, r, b, l]⟩ : Shape).ReducesTo [0, 2] ⟨2, ![r, l]⟩) (j : (⟨2, ![r, l]⟩ : Shape).Idx) (i : (⟨4, ![a, r, b, l]⟩ : Shape).Idx) :
    h.drop i = j ↔ ∃ k : Fin a × Fin b, ix4 k.1 (j 0) k.2 (j 1) = i := by
  have hd : h.drop i = ix2 (i 1) (i 3) := by
    funext x; apply Fin.ext
    match x with
    | ⟨0, _⟩ => rfl
    | ⟨1, _⟩ => rfl
  constructor
  · rintro rfl
    rw [hd]
    exact ⟨(i 0, i 2), (eq_ix4 i).symm⟩
  · rintro ⟨k, rfl⟩
    rw [hd]
    exact (eq_ix2 j).symm

/-- So that sum is one over the two coordinates. -/
theorem sum_apply (h : (⟨4, ![a, r, b, l]⟩ : Shape).ReducesTo [0, 2] ⟨2, ![r, l]⟩) (v : (⟨4, ![a, r, b, l]⟩ : Shape).Idx → EReal) (s : EReal)
    (j : (⟨2, ![r, l]⟩ : Shape).Idx) : Ideal.hostReduceAdd h v s j = s + ∑ k : Fin a × Fin b, v (ix4 k.1 (j 0) k.2 (j 1)) := by
  exact sum_fiber h v s j (fun k : Fin a × Fin b => ix4 k.1 (j 0) k.2 (j 1)) (fun p q e => Prod.ext (congrFun e 0) (congrFun e 2)) (drop_iff h j)

end Sum

/-- The whole array, read as two by two blocks, at a place of a block is that device's block at the place. -/
theorem cast_apply (w : (⟨2, ![8192, 4096]⟩ : Shape).Idx → EReal) (h : (⟨2, ![8192, 4096]⟩ : Shape).ShapeCasts ⟨4, ![2, 4096, 2, 2048]⟩)
    (c : Fin 4) (x y : Fin 2) (hx : x.val = c.val / 2) (hy : y.val = c.val % 2) (i : (⟨2, ![4096, 2048]⟩ : Shape).Idx) :
    shapeCast ⟨4, ![2, 4096, 2, 2048]⟩ w h (ix4 x (i 0) y (i 1))
      = (Layout.blockN ⟨2, ![4096, 2048]⟩ ⟨2, ![8192, 4096]⟩ (Layout.meshBlock [2, 2] ![[0], [1]] c) w) i := by
  rw [Layout.blockN_apply]
  refine shapeCast_apply w h _ _ ?_
  rw [Shape.rowMajor_val_two, Shape.rowMajor_val_four, Layout.TilesN.idx_val, Layout.TilesN.idx_val]
  have e0 : ((Layout.meshBlock [2, 2] ![[0], [1]] c) (0 : Fin 2)).val = x.val := by rw [hx]; clear hx hy; revert c; decide
  have e1 : ((Layout.meshBlock [2, 2] ![[0], [1]] c) (1 : Fin 2)).val = y.val := by rw [hy]; clear hx hy e0; revert c; decide
  show (((Layout.meshBlock [2, 2] ![[0], [1]] c) (0 : Fin 2)).val * 4096 + (i 0).val) * 4096 + (((Layout.meshBlock [2, 2] ![[0], [1]] c) (1 : Fin 2)).val * 2048 + (i 1).val)
    = (((x.val * 4096 + (i 0).val) * 2 + y.val) * 2048 + (i 1).val)
  rw [e0, e1]
  omega

/-- When each device's block is its part of the whole array, the kernel's result is the reference's. -/
theorem value_eq (m : (ℓ : Loc nD τ sig) → Buf (Elt Ideal) ℓ) (w : (⟨2, ![8192, 4096]⟩ : Shape).Idx → EReal)
    (hm : ∀ c : Dev nD, X m c = Layout.blockN ⟨2, ![4096, 2048]⟩ ⟨2, ![8192, 4096]⟩ (Layout.meshBlock [2, 2] ![[0], [1]] c) w)
    (h : (⟨2, ![8192, 4096]⟩ : Shape).ShapeCasts ⟨4, ![2, 4096, 2, 2048]⟩)
    (h' : (⟨4, ![2, 4096, 2, 2048]⟩ : Shape).ReducesTo [0, 2] ⟨2, ![4096, 2048]⟩) {u : Shape} (hu : 0 < u.numel) :
    Host.reduceAdd (F := Ideal) (φ := .f32) (shapeCast ⟨4, ![2, 4096, 2, 2048]⟩ w h) (constant u .f32 0x00000000#32) h' hu = total m := by
  funext i
  rw [Host.reduceAdd_apply, Ideal.hostReduceAdd_def, sum_apply, total_apply, Fintype.sum_prod_type, Fin.sum_univ_two, Fin.sum_univ_two, Fin.sum_univ_two,
    hm (0 : Fin 4), hm (1 : Fin 4), hm (2 : Fin 4), hm (3 : Fin 4),
    ← cast_apply w h 0 0 0 rfl rfl i, ← cast_apply w h 1 0 1 rfl rfl i, ← cast_apply w h 2 1 0 rfl rfl i, ← cast_apply w h 3 1 1 rfl rfl i,
    show (constant (F := Ideal) u .f32 0x00000000#32 (Shape.Idx.first hu) : EReal) = 0 from Ideal.ofBits_zero_f32, zero_add]
  exact (add_assoc _ _ _).symm

end Cert.AllReduce

end
-- ==== Proof.lean ====
/-
# The certificate

The five claims about the all-reduce, put together from the modules under Proof/: `Launch` runs the kernel at any float
values and says what every device holds at the end, `Value` shows that at the ideal values this is the reference's sum.
Kernel and KernelIdeal have the same text, so the run of the one is the run of the other.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The two texts' tables of bodies are one table, label by label. -/
theorem bodies_eq {F : FTy → Type} [FloatOps F] [Cert.Kernel.Facts] [Cert.KernelIdeal.Facts] :
    Cert.Kernel.defs₀ (F := F) = Cert.KernelIdeal.defs₀ (F := F) := by
  unfold Cert.Kernel.defs₀ Cert.KernelIdeal.defs₀
  refine congrArg Defs.onTc ?_
  funext p
  rcases p with ⟨_ | _, h⟩
  · rfl
  · exact absurd h (Nat.not_lt.2 (Nat.le_add_left _ _))

/-- So are the tables with each call's region and pipeline. -/
theorem defs_eq {F : FTy → Type} [FloatOps F] [Cert.Kernel.Facts] [Cert.KernelIdeal.Facts] :
    Cert.Kernel.defs (F := F) = Cert.KernelIdeal.defs (F := F) := by
  unfold Cert.Kernel.defs Cert.KernelIdeal.defs
  rw [bodies_eq]
  rfl

/-- The kernel runs, its source ends unchanged and every counter ends at zero: its text is the ideal kernel's, whose run is
    proved at any float values. -/
theorem frame_kernel : Cert.quiescent_Kernel (hKernel := Cert.Kernel.Gen.facts) := fun m g _ => by
  haveI := Cert.Kernel.Gen.facts
  haveI := Cert.KernelIdeal.Gen.facts
  rw [defs_eq]
  exact (θ_run (Cert.KernelIdeal.defs (F := Bits)) (onTc (τ := Cert.KernelIdeal.τ) (Cert.KernelIdeal.main (F := Bits))) ⟨m, fun _ => 0, g⟩).mono
    (Q' := fun r => (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0)
    (fun _ h => ⟨fun c => (h.1 c).2, h.2⟩) (Cert.AllReduce.run_main (F := Bits) m g)

/-- The same at the ideal values. -/
theorem frame_ideal : Cert.quiescent_KernelIdeal (hKernelIdeal := Cert.KernelIdeal.Gen.facts) := fun m g _ =>
  (θ_run Cert.KernelIdeal.defs _ _).mono (fun _ h => ⟨fun c => (h.1 c).2, h.2⟩) (Cert.AllReduce.run_main (F := Ideal) m g)

/-- The reference runs, its source ends unchanged, and it has no counter. -/
theorem frame_reference : Cert.quiescent_ReferenceIdeal (hReferenceIdeal := Cert.ReferenceIdeal.Gen.facts) := fun m g _ =>
  (θ_run Cert.ReferenceIdeal.defs _ _).mono (fun _ h => ⟨fun c => (h c).2, sem_eq_zero_of_no_sems (by decide) _⟩) (Cert.ReferenceIdeal.Value.run (F := Ideal) m g)

/-- From each device's part of the reference's array, every device's result is the reference's. -/
theorem same_value : Cert.algebraic_KernelIdeal_ReferenceIdeal (hKernelIdeal := Cert.KernelIdeal.Gen.facts) (hReferenceIdeal := Cert.ReferenceIdeal.Gen.facts) :=
  fun m g m' g' _ hm => ⟨Cert.AllReduce.total m,
    (θ_run Cert.KernelIdeal.defs _ _).mono (fun _ h c => h.1 c) (Cert.AllReduce.run_main (F := Ideal) m g),
    (θ_run Cert.ReferenceIdeal.defs _ _).mono (fun _ h => ⟨((h 0).1).trans (Cert.AllReduce.value_eq m _ hm _ _ _), (h 0).2⟩)
      (Cert.ReferenceIdeal.Value.run (F := Ideal) m' g')⟩

/-- All five claims. -/
theorem claim : Cert.Claim := ⟨Cert.Kernel.Gen.facts, Cert.KernelIdeal.Gen.facts, Cert.ReferenceIdeal.Gen.facts,
  frame_kernel, frame_ideal, frame_reference, trivial, same_value⟩

end Cert.Proof

end
